-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_2)) (v2 : (c : Dev Cert.KernelIdeal.nD) → Buf (Elt Ideal) ((c.tc : Thread Cert.KernelIdeal.nD Cert.KernelIdeal.τ).loc Cert.KernelIdeal.main_v3_4)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_2)) (v5 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_2) = v1 c
          ∧ r.2.mem ((c.tc : Thread Cert.KernelIdeal.nD Cert.KernelIdeal.τ).loc Cert.KernelIdeal.main_v3_4) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_2) = v4 c
          ∧ r.2.mem ((c.tc : Thread Cert.KernelIdeal.nD Cert.KernelIdeal.τ).loc Cert.KernelIdeal.main_v3_0) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_indices_17) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v71) = v4 c
          ∧ r.2.mem ((c.tc : Thread Cert.ReferenceIdeal.nD Cert.ReferenceIdeal.τ).loc Cert.ReferenceIdeal.main_v26) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S512x1024 : Shape := ⟨2, ![512, 1024]⟩
abbrev S512 : Shape := ⟨1, ![512]⟩
abbrev S4x512x256 : Shape := ⟨3, ![4, 512, 256]⟩
abbrev S4x256x1 : Shape := ⟨3, ![4, 256, 1]⟩
abbrev S2x512 : Shape := ⟨2, ![2, 512]⟩
abbrev S2 : Shape := ⟨1, ![2]⟩
abbrev S256x512 : Shape := ⟨2, ![256, 512]⟩
abbrev S4x1x256 : Shape := ⟨3, ![4, 1, 256]⟩
abbrev S1x512 : Shape := ⟨2, ![1, 512]⟩
abbrev S1x2 : Shape := ⟨2, ![1, 2]⟩
abbrev S1x8192 : Shape := ⟨2, ![1, 8192]⟩
abbrev S1x1 : Shape := ⟨2, ![1, 1]⟩
abbrev S2048x1024 : Shape := ⟨2, ![2048, 1024]⟩
abbrev S1x2048 : Shape := ⟨2, ![1, 2048]⟩
abbrev S1 : Shape := ⟨1, ![1]⟩
abbrev S2048x512 : Shape := ⟨2, ![2048, 512]⟩
abbrev S1x512x256 : Shape := ⟨3, ![1, 512, 256]⟩
abbrev S512x256 : Shape := ⟨2, ![512, 256]⟩
abbrev S2048x256 : Shape := ⟨2, ![2048, 256]⟩
abbrev S1x1x256 : Shape := ⟨3, ![1, 1, 256]⟩
abbrev S1x256 : Shape := ⟨2, ![1, 256]⟩
abbrev S1x1x2048 : Shape := ⟨3, ![1, 1, 2048]⟩
abbrev S1x1x1 : Shape := ⟨3, ![1, 1, 1]⟩
abbrev S256x1 : Shape := ⟨2, ![256, 1]⟩
abbrev S256 : Shape := ⟨1, ![256]⟩
abbrev S1x1x512 : Shape := ⟨3, ![1, 1, 512]⟩
abbrev S1x256x1 : Shape := ⟨3, ![1, 256, 1]⟩
abbrev S1x1x2 : Shape := ⟨3, ![1, 1, 2]⟩

abbrev nBuf : Space → Nat
  | .hbm => 17
  | .vmem => 17
  | .smem => 1
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S512, .f32⟩
  | .hbm, ⟨3, _⟩ => ⟨S4x512x256, .f32⟩
  | .hbm, ⟨4, _⟩ => ⟨S4x512x256, .f32⟩
  | .hbm, ⟨5, _⟩ => ⟨S4x256x1, .f32⟩
  | .hbm, ⟨6, _⟩ => ⟨S2x512, .f32⟩
  | .hbm, ⟨7, _⟩ => ⟨S2, .f32⟩
  | .hbm, ⟨8, _⟩ => ⟨S256x512, .f32⟩
  | .hbm, ⟨9, _⟩ => ⟨S4x1x256, .f32⟩
  | .hbm, ⟨10, _⟩ => ⟨S1x512, .f32⟩
  | .hbm, ⟨11, _⟩ => ⟨S1x2, .f32⟩
  | .hbm, ⟨12, _⟩ => ⟨S1x8192, .f32⟩
  | .hbm, ⟨13, _⟩ => ⟨S1x2, .f32⟩
  | .hbm, ⟨14, _⟩ => ⟨S1x2, .f32⟩
  | .hbm, ⟨15, _⟩ => ⟨S1x1, .f32⟩
  | .hbm, ⟨16, _⟩ => ⟨S1x1, .i32⟩
  | .local _ .vmem, ⟨0, _⟩ => ⟨S2048x1024, .f32⟩
  | .local _ .vmem, ⟨1, _⟩ => ⟨S2048x1024, .f32⟩
  | .local _ .vmem, ⟨2, _⟩ => ⟨S512x1024, .f32⟩
  | .local _ .vmem, ⟨3, _⟩ => ⟨S1x512, .f32⟩
  | .local _ .vmem, ⟨4, _⟩ => ⟨S4x512x256, .f32⟩
  | .local _ .vmem, ⟨5, _⟩ => ⟨S4x512x256, .f32⟩
  | .local _ .vmem, ⟨6, _⟩ => ⟨S4x1x256, .f32⟩
  | .local _ .vmem, ⟨7, _⟩ => ⟨S2x512, .f32⟩
  | .local _ .vmem, ⟨8, _⟩ => ⟨S1x2, .f32⟩
  | .local _ .vmem, ⟨9, _⟩ => ⟨S256x512, .f32⟩
  | .local _ .vmem, ⟨10, _⟩ => ⟨S1x2048, .f32⟩
  | .local _ .vmem, ⟨11, _⟩ => ⟨S1x2048, .f32⟩
  | .local _ .vmem, ⟨12, _⟩ => ⟨S1x2, .f32⟩
  | .local _ .vmem, ⟨13, _⟩ => ⟨S1x2, .f32⟩
  | .local _ .vmem, ⟨14, _⟩ => ⟨S1x1, .f32⟩
  | .local _ .vmem, ⟨15, _⟩ => ⟨S1x1, .i32⟩
  | .local _ .vmem, ⟨16, _⟩ => ⟨S1x512, .f32⟩
  | .local _ .smem, ⟨0, _⟩ => ⟨S1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_scratch0 : Ref sig .tc := ⟨.vmem, 16, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem12_0 : DmaSem sig := 14
abbrev cc0_sem13_0 : DmaSem sig := 15

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v122 : BitVec 1 := Scalar.cmpi .eq arg0 c3_i32
  let v123 : BitVec 32 := Scalar.extui v122
  let c0_i32_78 : BitVec 32 := 0#32
  let v124 : BitVec 1 := Scalar.cmpi .ne v123 c0_i32_78
  v124

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x1024 : Shape := ⟨2, ![8192, 1024]⟩
abbrev S512x1024 : Shape := ⟨2, ![512, 1024]⟩
abbrev S512 : Shape := ⟨1, ![512]⟩
abbrev S4x512x256 : Shape := ⟨3, ![4, 512, 256]⟩
abbrev S4x256x1 : Shape := ⟨3, ![4, 256, 1]⟩
abbrev S2x512 : Shape := ⟨2, ![2, 512]⟩
abbrev S2 : Shape := ⟨1, ![2]⟩
abbrev S256x512 : Shape := ⟨2, ![256, 512]⟩
abbrev S1024x512 : Shape := ⟨2, ![1024, 512]⟩
abbrev S8192x512 : Shape := ⟨2, ![8192, 512]⟩
abbrev S1x512 : Shape := ⟨2, ![1, 512]⟩
abbrev S_ : Shape := ⟨0, ![]⟩
abbrev S1x8192x512 : Shape := ⟨3, ![1, 8192, 512]⟩
abbrev S4x8192x512 : Shape := ⟨3, ![4, 8192, 512]⟩
abbrev S4x8192x256 : Shape := ⟨3, ![4, 8192, 256]⟩
abbrev S4x8192x1 : Shape := ⟨3, ![4, 8192, 1]⟩
abbrev S8192x1 : Shape := ⟨2, ![8192, 1]⟩
abbrev S1x8192 : Shape := ⟨2, ![1, 8192]⟩
abbrev S1 : Shape := ⟨1, ![1]⟩
abbrev S1x1 : Shape := ⟨2, ![1, 1]⟩
abbrev S256 : Shape := ⟨1, ![256]⟩
abbrev S1x256 : Shape := ⟨2, ![1, 256]⟩
abbrev S512x256 : Shape := ⟨2, ![512, 256]⟩
abbrev S512x2 : Shape := ⟨2, ![512, 2]⟩
abbrev S1x2 : Shape := ⟨2, ![1, 2]⟩

abbrev nBuf : Space → Nat
  | .hbm => 151
  | .vmem => 0
  | .smem => 0
  | _ => 0

abbrev hbmTy0_0 (i : Nat) : BufTy := match i % 128 with
  | 0 => ⟨S8192x1024, .f32⟩
  | 1 => ⟨S512x1024, .f32⟩
  | 2 => ⟨S512, .f32⟩
  | 3 => ⟨S4x512x256, .f32⟩
  | 4 => ⟨S4x512x256, .f32⟩
  | 5 => ⟨S4x256x1, .f32⟩
  | 6 => ⟨S2x512, .f32⟩
  | 7 => ⟨S2, .f32⟩
  | 8 => ⟨S256x512, .f32⟩
  | 9 => ⟨S1024x512, .f32⟩
  | 10 => ⟨S8192x512, .f32⟩
  | 11 => ⟨S1x512, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S1x8192x512, .f32⟩
  | 18 => ⟨S4x8192x512, .f32⟩
  | 19 => ⟨S4x8192x256, .f32⟩
  | 20 => ⟨S4x8192x256, .f32⟩
  | 21 => ⟨S4x8192x256, .f32⟩
  | 22 => ⟨S4x8192x256, .f32⟩
  | 23 => ⟨S4x8192x256, .f32⟩
  | 24 => ⟨S_, .f32⟩
  | 25 => ⟨S4x8192x256, .f32⟩
  | 26 => ⟨S4x8192x256, .f32⟩
  | 27 => ⟨S_, .f32⟩
  | 28 => ⟨S4x8192x256, .f32⟩
  | 29 => ⟨S4x8192x256, .f32⟩
  | 30 => ⟨S4x8192x256, .f32⟩
  | 31 => ⟨S4x8192x1, .f32⟩
  | 32 => ⟨S_, .f32⟩
  | 33 => ⟨S8192x1, .f32⟩
  | 34 => ⟨S1x8192, .f32⟩
  | 35 => ⟨S1x8192, .f32⟩
  | 36 => ⟨S1x8192, .f32⟩
  | 37 => ⟨S_, .f32⟩
  | 38 => ⟨S1x8192, .f32⟩
  | 39 => ⟨S1x8192, .f32⟩
  | 40 => ⟨S_, .f32⟩
  | 41 => ⟨S1x8192, .f32⟩
  | 42 => ⟨S1x8192, .f32⟩
  | 43 => ⟨S1x512, .f32⟩
  | 44 => ⟨S_, .f32⟩
  | 45 => ⟨S_, .f32⟩
  | 46 => ⟨S1x512, .f32⟩
  | 47 => ⟨S1x512, .f32⟩
  | 48 => ⟨S1x512, .f32⟩
  | 49 => ⟨S_, .f32⟩
  | 50 => ⟨S1, .f32⟩
  | 51 => ⟨S1x1, .f32⟩
  | 52 => ⟨S256x512, .f32⟩
  | 53 => ⟨S_, .f32⟩
  | 54 => ⟨S256, .f32⟩
  | 55 => ⟨S1x256, .f32⟩
  | 56 => ⟨S1x256, .f32⟩
  | 57 => ⟨S1x256, .f32⟩
  | 58 => ⟨S512x256, .f32⟩
  | 59 => ⟨S1x256, .f32⟩
  | 60 => ⟨S_, .f32⟩
  | 61 => ⟨S1x256, .f32⟩
  | 62 => ⟨S1x256, .f32⟩
  | 63 => ⟨S1x256, .f32⟩
  | 64 => ⟨S1x256, .i32⟩
  | 65 => ⟨S_, .f32⟩
  | 66 => ⟨S_, .i32⟩
  | 67 => ⟨S1, .f32⟩
  | 68 => ⟨S1, .i32⟩
  | 69 => ⟨S1x1, .i32⟩
  | 70 => ⟨S1x256, .i32⟩
  | 71 => ⟨S1x256, .i32⟩
  | 72 => ⟨S1x256, .i1⟩
  | 73 => ⟨S1x256, .f32⟩
  | 74 => ⟨S1x512, .f32⟩
  | 75 => ⟨S1x512, .f32⟩
  | 76 => ⟨S1x512, .f32⟩
  | 77 => ⟨S_, .f32⟩
  | 78 => ⟨S_, .f32⟩
  | 79 => ⟨S_, .f32⟩
  | 80 => ⟨S_, .f32⟩
  | 81 => ⟨S1x512, .f32⟩
  | 82 => ⟨S1x512, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S512x2, .f32⟩
  | 91 => ⟨S1x2, .f32⟩
  | 92 => ⟨S1x2, .f32⟩
  | 93 => ⟨S1x2, .f32⟩
  | 94 => ⟨S_, .f32⟩
  | 95 => ⟨S1, .f32⟩
  | 96 => ⟨S_, .f32⟩
  | 97 => ⟨S1, .f32⟩
  | 98 => ⟨S1, .f32⟩
  | 99 => ⟨S1x1, .f32⟩
  | 100 => ⟨S1x2, .f32⟩
  | 101 => ⟨S1x2, .f32⟩
  | 102 => ⟨S1x2, .f32⟩
  | 103 => ⟨S_, .f32⟩
  | 104 => ⟨S1, .f32⟩
  | 105 => ⟨S1x1, .f32⟩
  | 106 => ⟨S1x2, .f32⟩
  | 107 => ⟨S1x2, .f32⟩
  | 108 => ⟨S1x1, .f32⟩
  | 109 => ⟨S1, .f32⟩
  | 110 => ⟨S1, .f32⟩
  | 111 => ⟨S1, .i32⟩
  | 112 => ⟨S_, .i32⟩
  | 113 => ⟨S1, .i32⟩
  | 114 => ⟨S1, .i1⟩
  | 115 => ⟨S_, .i32⟩
  | 116 => ⟨S1, .i32⟩
  | 117 => ⟨S1, .i32⟩
  | 118 => ⟨S1, .i32⟩
  | 119 => ⟨S1x1, .i32⟩
  | 120 => ⟨S1, .i32⟩
  | 121 => ⟨S_, .i32⟩
  | 122 => ⟨S1x1, .i32⟩
  | 123 => ⟨S1x1, .i1⟩
  | 124 => ⟨S1x1, .i32⟩
  | 125 => ⟨S1x1, .i1⟩
  | 126 => ⟨S1x1, .i1⟩
  | 127 => ⟨S_, .i1⟩
  | _ => ⟨S8192x1024, .f32⟩

abbrev hbmTy0_1 (i : Nat) : BufTy := match i % 128 with
  | 0 => ⟨S1, .i1⟩
  | 1 => ⟨S1x2, .f32⟩
  | 2 => ⟨S1x2, .i1⟩
  | 3 => ⟨S_, .f32⟩
  | 4 => ⟨S1x2, .f32⟩
  | 5 => ⟨S1x2, .f32⟩
  | 6 => ⟨S1x1, .f32⟩
  | 7 => ⟨S1x1, .i32⟩
  | 8 => ⟨S_, .f32⟩
  | 9 => ⟨S1, .f32⟩
  | 10 => ⟨S_, .f32⟩
  | 11 => ⟨S1, .f32⟩
  | 12 => ⟨S1, .f32⟩
  | 13 => ⟨S1x1, .f32⟩
  | 14 => ⟨S1x2, .f32⟩
  | 15 => ⟨S1x2, .f32⟩
  | 16 => ⟨S1x2, .f32⟩
  | 17 => ⟨S_, .f32⟩
  | 18 => ⟨S1, .f32⟩
  | 19 => ⟨S1x1, .f32⟩
  | 20 => ⟨S1x2, .f32⟩
  | 21 => ⟨S1x2, .f32⟩
  | 22 => ⟨S1x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call1_v0 : Ref sig .tc := ⟨.hbm, 64, rfl⟩
abbrev main_call1_cst : Ref sig .tc := ⟨.hbm, 65, rfl⟩
abbrev main_call1_c : Ref sig .tc := ⟨.hbm, 66, rfl⟩
abbrev main_call1_v1_0 : Ref sig .tc := ⟨.hbm, 67, rfl⟩
abbrev main_v44 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_13 : Ref sig .tc := ⟨.hbm, 94, rfl⟩
abbrev main_v61 : Ref sig .tc := ⟨.hbm, 95, rfl⟩
abbrev main_cst_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_values : Ref sig .tc := ⟨.hbm, 110, rfl⟩
abbrev main_indices : Ref sig .tc := ⟨.hbm, 111, rfl⟩
abbrev main_call3_c : Ref sig .tc := ⟨.hbm, 112, rfl⟩
abbrev main_call3_v0 : Ref sig .tc := ⟨.hbm, 113, rfl⟩
abbrev main_call3_v1 : Ref sig .tc := ⟨.hbm, 114, rfl⟩
abbrev main_call3_c_0 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_v5 : Ref sig .tc := ⟨.hbm, 119, rfl⟩
abbrev main_call3_c_1 : Ref sig .tc := ⟨.hbm, 120, rfl⟩
abbrev main_call3_c_2 : Ref sig .tc := ⟨.hbm, 121, rfl⟩
abbrev main_call3_v6 : Ref sig .tc := ⟨.hbm, 122, rfl⟩
abbrev main_call3_v7 : Ref sig .tc := ⟨.hbm, 123, rfl⟩
abbrev main_call3_v8 : Ref sig .tc := ⟨.hbm, 124, rfl⟩
abbrev main_call3_v9 : Ref sig .tc := ⟨.hbm, 125, rfl⟩
abbrev main_call3_v10 : Ref sig .tc := ⟨.hbm, 126, rfl⟩
abbrev main_call3_c_3 : Ref sig .tc := ⟨.hbm, 127, rfl⟩
abbrev main_call3_v11 : Ref sig .tc := ⟨.hbm, 128, rfl⟩
abbrev main_call3_v12 : Ref sig .tc := ⟨.hbm, 129, rfl⟩
abbrev main_call3_v13 : Ref sig .tc := ⟨.hbm, 130, rfl⟩
abbrev main_call3_cst : Ref sig .tc := ⟨.hbm, 131, rfl⟩
abbrev main_call3_v14 : Ref sig .tc := ⟨.hbm, 132, rfl⟩
abbrev main_v74 : Ref sig .tc := ⟨.hbm, 133, rfl⟩
abbrev main_values_16 : Ref sig .tc := ⟨.hbm, 134, rfl⟩
abbrev main_indices_17 : Ref sig .tc := ⟨.hbm, 135, rfl⟩
abbrev main_cst_18 : Ref sig .tc := ⟨.hbm, 136, rfl⟩
abbrev main_v75 : Ref sig .tc := ⟨.hbm, 137, rfl⟩
abbrev main_cst_19 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_cst_20 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩

abbrev nD : Nat := 1
abbrev τ : Topo := Topo.v7x

variable {F : FTy → Type} [FloatOps F]
-- ==== Proof.RefFun.lean ====
/- The reference program's stages as functions of the arrays they read, in the program's own operations. -/
module

public import proofs.«01_k».proof.Proof.Gen.ReferenceIdeal

@[expose] public section

set_option maxRecDepth 16384

noncomputable section

namespace Cert.ReferenceIdeal.Host

open Cert.ReferenceIdeal Cert.ReferenceIdeal.Gen
open Idealize.ShloMosaic Idealize.SL.Sem

variable {F : FTy → Type} [FloatOps F]

/-- The hidden layer: `max (h · W1ᵀ + b1, 0)`. -/
def hidden (h : FVec F S8192x1024 .f32) (w : FVec F S512x1024 .f32) (b : FVec F S512 .f32) : FVec F S8192x512 .f32 :=
  maximumf
    (addf (Host.dotGeneral dot_S8192x1024_S1024x512_S8192x512_1_0_0_1_n_n none h
        (transpose S1024x512 [1, 0] w transposes_S512x1024_S1024x512_1_0))
      (broadcastInDim S8192x512 ![0, 1] bcast_S1x512_S8192x512_0_1 (broadcastInDim S1x512 ![1] bcast_S512_S1x512_1 b)))
    (broadcastInDim S8192x512 ![] bcast_S_S8192x512 (constant S_ .f32 0x00000000#32))

/-- One projection of the hidden layer for each of the four experts. -/
def project (x : FVec F S8192x512 .f32) (u : FVec F S4x512x256 .f32) : FVec F S4x8192x256 .f32 :=
  Host.dotGeneral dot_S4x8192x512_S4x512x256_S4x8192x256_2_1_1_2_0_0 none
    (broadcastInDim S4x8192x512 ![0, 1, 2] bcast_S1x8192x512_S4x8192x512_0_1_2
      (broadcastInDim S1x8192x512 ![1, 2] bcast_S8192x512_S1x8192x512_1_2 x)) u

/-- The gate: `1 / (1 + exp (-v))` entrywise. -/
def gate (v : FVec F S4x8192x256 .f32) : FVec F S4x8192x256 .f32 :=
  Host.divf (broadcastInDim S4x8192x256 ![] bcast_S_S4x8192x256 (constant S_ .f32 0x3F800000#32))
    (addf (broadcastInDim S4x8192x256 ![] bcast_S_S4x8192x256 (constant S_ .f32 0x3F800000#32))
      (Host.exp (Host.negf v)))

/-- The sum over the experts of the gated scores, as a row. -/
def scores (x : FVec F S8192x512 .f32) (ua ub : FVec F S4x512x256 .f32) (uc : FVec F S4x256x1 .f32) : FVec F S1x8192 .f32 :=
  transpose S1x8192 [1, 0]
    (Host.reduceAdd
      (Host.dotGeneral dot_S4x8192x256_S4x256x1_S4x8192x1_2_1_1_2_0_0 none
        (mulf (Host.tanh (project x ua)) (gate (project x ub))) uc)
      (constant S_ .f32 0x00000000#32) reducesTo_S4x8192x1_S8192x1_d0 h_S_)
    transposes_S8192x1_S1x8192_1_0

/-- The attention row: `1 / (1 + exp (-s))` of the scores. -/
def attention (x : FVec F S8192x512 .f32) (ua ub : FVec F S4x512x256 .f32) (uc : FVec F S4x256x1 .f32) : FVec F S1x8192 .f32 :=
  Host.divf (broadcastInDim S1x8192 ![] bcast_S_S1x8192 (constant S_ .f32 0x3F800000#32))
    (addf (broadcastInDim S1x8192 ![] bcast_S_S1x8192 (constant S_ .f32 0x3F800000#32))
      (Host.exp (Host.negf (scores x ua ub uc))))

/-- The pooled row: the attention-weighted sum of the hidden rows over the sum of the weights. -/
def pooled (a : FVec F S1x8192 .f32) (x : FVec F S8192x512 .f32) : FVec F S1x512 .f32 :=
  Host.divf (Host.dotGeneral dot_S1x8192_S8192x512_S1x512_1_0_0_1_n_n none a x)
    (broadcastInDim S1x512 ![] bcast_S_S1x512
      (Host.reduceAdd a (constant S_ .f32 0x00000000#32) reducesTo_S1x8192_S_d0_1 h_S_))

/-- The row of distances from the pooled row to the codes. -/
def distances (m : FVec F S1x512 .f32) (cb : FVec F S256x512 .f32) : FVec F S1x256 .f32 :=
  addf
    (addf
      (broadcastInDim S1x256 ![0, 1] bcast_S1x1_S1x256_0_1 (broadcastInDim S1x1 ![0] bcast_S1_S1x1_0
        (Host.reduceAdd (mulf m m) (constant S_ .f32 0x00000000#32) reducesTo_S1x512_S1_d1 h_S_)))
      (broadcastInDim S1x256 ![1] bcast_S256_S1x256_1
        (Host.reduceAdd (mulf cb cb) (constant S_ .f32 0x00000000#32) reducesTo_S256x512_S256_d1 h_S_)))
    (mulf (broadcastInDim S1x256 ![] bcast_S_S1x256 (constant S_ .f32 0x40000000#32))
      (Host.dotGeneral dot_S1x512_S512x256_S1x256_1_0_0_1_n_n none m
        (transpose S512x256 [1, 0] cb transposes_S256x512_S512x256_1_0)))

/-- The index of the nearest code: the first index of the least distance. -/
def nearest (d : FVec F S1x256 .f32) : IVec S1 32 := fun j =>
  (Host.argReduce reducer_argmin_f32_i32 d (iotaInDim S1x256 32 1) (constant S_ .f32 0x7F800000#32)
    (constantI S_ 32 0#32) reducesTo_S1x256_S1_d1 h_S_ j).2

/-- The nearest code's row: the one-hot row of its index times the codebook. -/
def coded (d : FVec F S1x256 .f32) (cb : FVec F S256x512 .f32) : FVec F S1x512 .f32 :=
  Host.dotGeneral dot_S1x256_S256x512_S1x512_1_0_0_1_n_n none
    (uitofp .f32 (cmpi .eq
      (broadcastInDim S1x256 ![0, 1] bcast_S1x1_S1x256_0_1 (broadcastInDim S1x1 ![0] bcast_S1_S1x1_0 (nearest d)))
      (iotaInDim S1x256 32 1))) cb

/-- The mean of the squared differences of two rows. -/
def meanSq (q m : FVec F S1x512 .f32) : FVec F S_ .f32 :=
  Host.divf
    (Host.reduceAdd (mulf (subf q m) (subf q m)) (constant S_ .f32 0x00000000#32) reducesTo_S1x512_S_d0_1 h_S_)
    (constant S_ .f32 0x44000000#32)

/-- The quantization loss: a quarter of that mean plus that mean. -/
def loss (q m : FVec F S1x512 .f32) : FVec F S_ .f32 :=
  addf (mulf (meanSq q m) (constant S_ .f32 0x3E800000#32)) (meanSq q m)

/-- The logits of the pooled row. -/
def logits (m : FVec F S1x512 .f32) (w : FVec F S2x512 .f32) (b : FVec F S2 .f32) : FVec F S1x2 .f32 :=
  addf (Host.dotGeneral dot_S1x512_S512x2_S1x2_1_0_0_1_n_n none m
      (transpose S512x2 [1, 0] w transposes_S2x512_S512x2_1_0))
    (broadcastInDim S1x2 ![1] bcast_S2_S1x2_1 b)

/-- A row less its greatest entry, exponentiated. -/
def expShift (l : FVec F S1x2 .f32) : FVec F S1x2 .f32 :=
  Host.exp (subf l (broadcastInDim S1x2 ![0, 1] bcast_S1x1_S1x2_0_1 (broadcastInDim S1x1 ![0] bcast_S1_S1x1_0
    (maximumf (broadcastInDim S1 ![] bcast_S_S1 (constant S_ .f32 0xFF800000#32))
      (Host.reduce FloatOps.maximumf l (constant S_ .f32 0xFF800000#32) reducesTo_S1x2_S1_d1 h_S_)))))

/-- The softmax of a row of two. -/
def softmax (l : FVec F S1x2 .f32) : FVec F S1x2 .f32 :=
  Host.divf (expShift l)
    (broadcastInDim S1x2 ![0, 1] bcast_S1x1_S1x2_0_1 (broadcastInDim S1x1 ![0] bcast_S1_S1x1_0
      (Host.reduceAdd (expShift l) (constant S_ .f32 0x00000000#32) reducesTo_S1x2_S1_d1 h_S_)))

/-- The index of the top entry among the one bag's score for class one. -/
def topIndex (p : FVec F S1x2 .f32) : IVec S1 32 :=
  (Host.topK S1 0 (FloatOps.cmpfTotal .gt)
    (shapeCast S1 (extractStridedSlice S1x1 ![0, 1] p slices_S1x2_S1x1_0_1) shapeCasts_S1x1_S1) sliceFits_S1_S1).2

/-- An index, one more when it is negative. -/
def wrapped (i : IVec S1 32) : IVec S1x1 32 :=
  broadcastInDim S1x1 ![0] bcast_S1_S1x1_0
    (select (cmpi .slt i (broadcastInDim S1 ![] bcast_S_S1 (constantI S_ 32 0#32)))
      (addi i (broadcastInDim S1 ![] bcast_S_S1 (constantI S_ 32 1#32))) i)

/-- Whether the wrapped index is in range. -/
def inRange (w : IVec S1x1 32) : IVec S1 1 :=
  Host.reduce IntOp.andi
    (andi (cmpi .sge w (broadcastInDim S1x1 ![] bcast_S_S1x1 (constantI S_ 32 0#32)))
      (cmpi .sle w (broadcastInDim S1x1 ![1] bcast_S1_S1x1_1 (constantI S1 32 0#32))))
    (constantI S_ 1 1#1) reducesTo_S1x1_S1_d1 h_S_

/-- The rows of `l` taken at an index; outside the range, the printed filler. -/
def takeRow (l : FVec F S1x2 .f32) (i : IVec S1 32) : FVec F S1x2 .f32 :=
  select (broadcastInDim S1x2 ![0] bcast_S1_S1x2_0 (inRange (wrapped i)))
    (Host.gather gather_S1x2_S1x1_S1x2_1_0_n_n_0_1_12 l (wrapped i))
    (broadcastInDim S1x2 ![] bcast_S_S1x2 (constant S_ .f32 0x7FC00000#32))

/-- The index of the greater entry of a row of two. -/
def predicted (l : FVec F S1x2 .f32) : IVec S1x1 32 :=
  (Host.topK S1x1 1 (FloatOps.cmpfTotal .gt) l sliceFits_S1x2_S1x1).2

end Cert.ReferenceIdeal.Host

end
-- ==== Proof.Block.lean ====
/- What one grid point computes: the hidden rows and the attention of its block, what it adds to the two running sums,
   and at the last point the results of the pooled row. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Bridge

open Cert.KernelIdeal Cert.KernelIdeal.Gen Idealize.ShloMosaic Idealize.ShloMosaic.TcCoe Idealize.SL.Sem

variable {F : FTy → Type} [FloatOps F]

/-- One half of the attention less one half, for a block of 2048 rows `x` and the experts' weights. -/
def halfAtt (h : Vec F S2048x1024 .f32) (w : Vec F S512x1024 .f32) (b : Vec F S1x512 .f32)
    (ua ub : Vec F S4x512x256 .f32) (uc : Vec F S4x1x256 .f32) : FVec F S1x2048 .f32 :=
  k0_pay20 (k0_pay13 h w b)
    (k0_pay16 (k0_pay13 h w b) k0_pay14
      (k0_pay15 h w b
        (View.ld ua (Rect.unit ![0, 0, 0] ![1, 512, 256] inb_S4x512x256_S1x512x256_0_0_0))
        (View.ld ub (Rect.unit ![0, 0, 0] ![1, 512, 256] inb_S4x512x256_S1x512x256_0_0_0)))
      (View.ld uc (Rect.unit ![0, 0, 0] ![1, 1, 256] inb_S4x1x256_S1x1x256_0_0_0))
      (View.ld ua (Rect.unit ![1, 0, 0] ![1, 512, 256] inb_S4x512x256_S1x512x256_1_0_0))
      (View.ld ub (Rect.unit ![1, 0, 0] ![1, 512, 256] inb_S4x512x256_S1x512x256_1_0_0))
      (View.ld uc (Rect.unit ![1, 0, 0] ![1, 1, 256] inb_S4x1x256_S1x1x256_1_0_0)))
    (k0_pay17 (k0_pay13 h w b)
      (View.ld ub (Rect.unit ![2, 0, 0] ![1, 512, 256] inb_S4x512x256_S1x512x256_2_0_0)))
    (k0_pay18 (k0_pay13 h w b)
      (View.ld ua (Rect.unit ![2, 0, 0] ![1, 512, 256] inb_S4x512x256_S1x512x256_2_0_0)))
    k0_pay19 (View.ld uc (Rect.unit ![2, 0, 0] ![1, 1, 256] inb_S4x1x256_S1x1x256_2_0_0))
    (View.ld ua (Rect.unit ![3, 0, 0] ![1, 512, 256] inb_S4x512x256_S1x512x256_3_0_0))
    (View.ld ub (Rect.unit ![3, 0, 0] ![1, 512, 256] inb_S4x512x256_S1x512x256_3_0_0))
    (View.ld uc (Rect.unit ![3, 0, 0] ![1, 1, 256] inb_S4x1x256_S1x1x256_3_0_0))

variable (m : (ℓ : Loc nD τ sig) → Buf (Elt F) ℓ)

/-- The hidden rows of block `t`. -/
abbrev bx (c : Dev nD) (t : Fin cfg0.N) : FVec F S2048x512 .bf16 := k0_pay13 (iblk m c 0 t) (iblk m c 1 t) (iblk m c 2 t)
/-- `halfAtt` of block `t`. -/
abbrev ba (c : Dev nD) (t : Fin cfg0.N) : FVec F S1x2048 .f32 :=
  halfAtt (iblk m c 0 t) (iblk m c 1 t) (iblk m c 2 t) (iblk m c 3 t) (iblk m c 4 t) (iblk m c 5 t)
/-- The running weighted sum after point `n`. -/
abbrev psum (c : Dev nD) (n : ℕ) (h : n < cfg0.N) : Vec F S1x512 .f32 := (outsAt0 m c n h).2.2.2.2.2.1
/-- The running sum of weights after point `n`. -/
abbrev ssum (c : Dev nD) (n : ℕ) (h : n < cfg0.N) : Vec F S1 .f32 := (outsAt0 m c n h).2.2.2.2.2.2

/-- The one index of a vector of length one. -/
theorem first_eq (h) : Shape.Idx.first (s := S1) h = ix1 0 := by
  funext a; fin_cases a; rfl

/-- Every point leaves its block's attention row. -/
theorem att_out (c : Dev nD) (t : Fin cfg0.N) : (outsAt0 m c t.val t.isLt).1 = k0_pay1 (ba m c t) := by
  by_cases h0 : t.val % 4 = 0
  · rw [outsAt0_A m c t h0 (by omega)]; frame_out; rfl
  · by_cases h1 : t.val % 4 = 3
    · rw [outsAt0_C m c t h0 h1]; frame_out; rfl
    · rw [outsAt0_B m c t h0 h1]; frame_out; rfl

/-- The first point starts the weighted sum at zero. -/
theorem psum_reset (c : Dev nD) (t : Fin cfg0.N) (h0 : t.val % 4 = 0) :
    psum m c t.val t.isLt = k0_pay2 (bx m c t) (ba m c t) k0_pay12 := by
  unfold psum; rw [outsAt0_A m c t h0 (by omega)]; frame_out; rfl

/-- Every later point adds its part to the weighted sum. -/
theorem psum_step (c : Dev nD) (t : Fin cfg0.N) (h0 : ¬t.val % 4 = 0) :
    psum m c t.val t.isLt = k0_pay2 (bx m c t) (ba m c t) (psum m c (t.val - 1) (by omega)) := by
  by_cases h1 : t.val % 4 = 3
  · unfold psum; rw [outsAt0_C m c t h0 h1]; frame_out; simp only [read_unread_whole, first_eq]; rfl
  · unfold psum; rw [outsAt0_B m c t h0 h1]; frame_out; simp only [read_unread_whole, first_eq]; rfl

/-- The first point starts the sum of weights at zero. -/
theorem ssum_reset (c : Dev nD) (t : Fin cfg0.N) (h0 : t.val % 4 = 0) :
    ssum m c t.val t.isLt = fun _ => k0_pay3 (ba m c t) (Scalar.ofBits .f32 0x00000000#32) := by
  unfold ssum; rw [outsAt0_A m c t h0 (by omega)]; frame_out
  rfl

/-- Every later point adds its part to the sum of weights. -/
theorem ssum_step (c : Dev nD) (t : Fin cfg0.N) (h0 : ¬t.val % 4 = 0) :
    ssum m c t.val t.isLt = fun _ => k0_pay3 (ba m c t) (ssum m c (t.val - 1) (by omega) (ix1 0)) := by
  by_cases h1 : t.val % 4 = 3
  · unfold ssum; rw [outsAt0_C m c t h0 h1]; frame_out; simp only [read_unread_whole, first_eq]; rfl
  · unfold ssum; rw [outsAt0_B m c t h0 h1]; frame_out; simp only [read_unread_whole, first_eq]; rfl

/-- The pooled row as the last point divides it. -/
abbrev bm (c : Dev nD) (t : Fin cfg0.N) : FVec F S1x512 .f32 :=
  k0_pay5 (psum m c t.val t.isLt) (ssum m c t.val t.isLt (ix1 0))

/-- The last point leaves the logits of the pooled row. -/
theorem logits_out (c : Dev nD) (t : Fin cfg0.N) (h0 : ¬t.val % 4 = 0) (h1 : t.val % 4 = 3) :
    (outsAt0 m c t.val t.isLt).2.1 = k0_pay7 (bm m c t) (iblk m c 6 t) (iblk m c 7 t) := by
  unfold bm; rw [psum_step m c t h0, ssum_step m c t h0, outsAt0_C m c t h0 h1]; frame_out
  simp only [read_unread_whole, first_eq]; rfl

/-- The last point leaves the softmax of the logits. -/
theorem probs_out (c : Dev nD) (t : Fin cfg0.N) (h0 : ¬t.val % 4 = 0) (h1 : t.val % 4 = 3) :
    (outsAt0 m c t.val t.isLt).2.2.1 = k0_pay8 (bm m c t) (iblk m c 6 t) (iblk m c 7 t) := by
  unfold bm; rw [psum_step m c t h0, ssum_step m c t h0, outsAt0_C m c t h0 h1]; frame_out
  simp only [read_unread_whole, first_eq]; rfl

/-- The last point leaves the quantization loss of the pooled row. -/
theorem loss_out (c : Dev nD) (t : Fin cfg0.N) (h0 : ¬t.val % 4 = 0) (h1 : t.val % 4 = 3) :
    (outsAt0 m c t.val t.isLt).2.2.2.1
      = k0_pay11 (k0_pay6 (psum m c t.val t.isLt) (ssum m c t.val t.isLt (ix1 0)) (iblk m c 8 t)) := by
  rw [psum_step m c t h0, ssum_step m c t h0, outsAt0_C m c t h0 h1]; frame_out
  simp only [read_unread_whole, first_eq]; rfl

/-- The last point leaves the predicted class. -/
theorem class_out (c : Dev nD) (t : Fin cfg0.N) (h0 : ¬t.val % 4 = 0) (h1 : t.val % 4 = 3) :
    (outsAt0 m c t.val t.isLt).2.2.2.2.1
      = k0_pay4 (Scalar.cmpf .ogt (k0_pay10 (bm m c t) (iblk m c 6 t) (iblk m c 7 t))
          (k0_pay9 (bm m c t) (iblk m c 6 t) (iblk m c 7 t))) := by
  unfold bm; rw [psum_step m c t h0, ssum_step m c t h0, outsAt0_C m c t h0 h1]; frame_out
  simp only [read_unread_whole, first_eq]; rfl

end Cert.KernelIdeal.Bridge

end
-- ==== Proof.Math.lean ====
/- Arithmetic on the extended reals that the two programs spell differently: a few constants, the logistic function by its
   two formulas, and the loss's two scalings. -/
module

public import Idealize.ShloMosaic.Lib.IdealHost

@[expose] public section

noncomputable section

namespace Cert.Maths

open Idealize.ShloMosaic

/-- `1 / (1 + exp (-v))`. -/
def sg (v : EReal) : EReal := Ideal.div 1 (1 + Ideal.exp (-v))

/-- The pattern of one half. -/
theorem half_eq : Ideal.ofBits .f32 0x3F000000#32 = ((1 / 2 : ℝ) : EReal) := by
  simp [Ideal.ofBits, Ideal.ieee, -EReal.coe_mul]; norm_num

/-- The pattern of one quarter. -/
theorem quarter_eq : Ideal.ofBits .f32 0x3E800000#32 = ((1 / 4 : ℝ) : EReal) := by
  simp [Ideal.ofBits, Ideal.ieee, -EReal.coe_mul]; norm_num

/-- The pattern of five quarters. -/
theorem five_quarters_eq : Ideal.ofBits .f32 0x3FA00000#32 = ((5 / 4 : ℝ) : EReal) := by
  simp [Ideal.ofBits, Ideal.ieee, -EReal.coe_mul]; norm_num

/-- The pattern of 512. -/
theorem five_twelve_eq : Ideal.ofBits .f32 0x44000000#32 = ((512 : ℝ) : EReal) := by
  simp [Ideal.ofBits, Ideal.ieee, -EReal.coe_mul]; norm_num

/-- The pattern of plus infinity. -/
theorem pos_inf_eq : Ideal.ofBits .f32 0x7F800000#32 = ⊤ := by
  simp [Ideal.ofBits, Ideal.ieee]

/-- The pattern of minus infinity. -/
theorem neg_inf_eq : Ideal.ofBits .f32 0xFF800000#32 = ⊥ := by
  simp [Ideal.ofBits, Ideal.ieee]

/-- The logistic function by its hyperbolic tangent, on the reals. -/
theorem real_sg (x : ℝ) : 1 / 2 * Real.tanh (1 / 2 * x) + 1 / 2 = 1 / (1 + Real.exp (-x)) := by
  rw [Real.tanh_eq_sinh_div_cosh, Real.sinh_eq, Real.cosh_eq]
  have e : Real.exp (-x) = Real.exp (-(1 / 2 * x)) * Real.exp (-(1 / 2 * x)) := by
    rw [← Real.exp_add]; congr 1; ring
  have i : Real.exp (1 / 2 * x) * Real.exp (-(1 / 2 * x)) = 1 := by
    rw [← Real.exp_add]; simp
  rw [e]
  have hp := Real.exp_pos (1 / 2 * x)
  have hn := Real.exp_pos (-(1 / 2 * x))
  generalize Real.exp (1 / 2 * x) = p at *
  generalize Real.exp (-(1 / 2 * x)) = n at *
  have h1 : p + n ≠ 0 := by positivity
  have h2 : 1 + n * n ≠ 0 := by positivity
  field_simp
  linear_combination (2 * n) * i

/-- The logistic function by its hyperbolic tangent, at every extended real. -/
theorem sg_eq (v : EReal) :
    Ideal.ofBits .f32 0x3F000000#32 * Ideal.tanh (Ideal.ofBits .f32 0x3F000000#32 * v) + Ideal.ofBits .f32 0x3F000000#32
      = sg v := by
  rw [half_eq, sg]
  induction v with
  | bot =>
    rw [EReal.coe_mul_bot_of_pos (by norm_num), EReal.neg_bot]
    show ((1 / 2 : ℝ) : EReal) * (-1) + _ = Ideal.div 1 (1 + ⊤)
    rw [EReal.add_top_of_ne_bot (by decide), Ideal.div, if_neg (by decide), EReal.inv_top, mul_zero]
    rw [show ((-1 : EReal)) = ((-1 : ℝ) : EReal) by simp]
    rw [← EReal.coe_mul, ← EReal.coe_add]; norm_num
  | top =>
    rw [EReal.coe_mul_top_of_pos (by norm_num), EReal.neg_top]
    show ((1 / 2 : ℝ) : EReal) * 1 + _ = Ideal.div 1 (1 + 0)
    rw [add_zero, mul_one, ← EReal.coe_add, Ideal.div, if_neg one_ne_zero, ← EReal.coe_one, ← EReal.coe_inv,
      ← EReal.coe_mul]; norm_num
  | coe x =>
    rw [← EReal.coe_mul, ← EReal.coe_neg]
    show ((1 / 2 : ℝ) : EReal) * ((Real.tanh (1 / 2 * x) : ℝ) : EReal) + _ = Ideal.div 1 (1 + ((Real.exp (-x) : ℝ) : EReal))
    have hp := Real.exp_pos (-x)
    rw [← EReal.coe_one, ← EReal.coe_add, Ideal.div_coe (by positivity), ← EReal.coe_mul, ← EReal.coe_mul, ← EReal.coe_add,
      real_sg, one_mul]

/-- Five quarters of a nonnegative sum, over 512, is a quarter of its 512th plus its 512th. -/
theorem loss_scale {s : EReal} (hs : 0 ≤ s) :
    Ideal.div (Ideal.ofBits .f32 0x3FA00000#32 * s) (Ideal.ofBits .f32 0x44000000#32)
      = Ideal.div s (Ideal.ofBits .f32 0x44000000#32) * Ideal.ofBits .f32 0x3E800000#32
        + Ideal.div s (Ideal.ofBits .f32 0x44000000#32) := by
  rw [five_quarters_eq, five_twelve_eq, quarter_eq, Ideal.div_coe (by norm_num), Ideal.div_coe (by norm_num)]
  induction s with
  | bot => exact absurd hs (by decide)
  | top =>
    rw [EReal.coe_mul_top_of_pos (by norm_num), EReal.top_mul_coe_of_pos (by norm_num), EReal.top_mul_coe_of_pos (by norm_num)]
    rfl
  | coe x =>
    simp only [← EReal.coe_mul, ← EReal.coe_add]
    congr 1; ring

end Cert.Maths

end
-- ==== Proof.Rows.lean ====
/- One row of the hidden layer and its attention as scalar formulas, and both programs' rows read to them. -/
module

public import proofs.«01_k».proof.Proof.RefFun
public import proofs.«01_k».proof.Proof.Block
public import proofs.«01_k».proof.Proof.Math
public import Idealize.ShloMosaic.Lib.Pointwise

@[expose] public section

set_option maxRecDepth 16384

noncomputable section

namespace Cert.Rows

open Idealize.ShloMosaic
open Cert.Maths

/-- A hidden row: entry `l` is the larger of zero and the input row's product with row `l` of the weights plus the bias. -/
def rowX (h : Fin 1024 → EReal) (w : Fin 512 → Fin 1024 → EReal) (b : Fin 512 → EReal) (l : Fin 512) : EReal :=
  max (∑ k, h k * w l k + b l) 0

/-- The attention of a hidden row: the logistic function of the sum over the experts of their gated scores. -/
def rowA (x : Fin 512 → EReal) (ua ub : Fin 4 → Fin 512 → Fin 256 → EReal) (uc : Fin 4 → Fin 256 → EReal) : EReal :=
  sg (∑ e, ∑ l, Ideal.tanh (∑ k, x k * ua e k l) * sg (∑ k, x k * ub e k l) * uc e l)

section Reference
open Cert.ReferenceIdeal Cert.ReferenceIdeal.Host

/-- The reference's hidden layer, row by row. -/
theorem hidden_at (h : FVec Ideal S8192x1024 .f32) (w : FVec Ideal S512x1024 .f32) (b : FVec Ideal S512 .f32)
    (r : Fin 8192) (l : Fin 512) :
    Host.hidden h w b (ix2 r l) = rowX (fun k => h (ix2 r k)) (fun l k => w (ix2 l k)) (fun l => b (ix1 l)) l := by
  pointwise [Cert.ReferenceIdeal.Host.hidden, rowX]

/-- The reference's attention, row by row. -/
theorem attention_at (x : FVec Ideal S8192x512 .f32) (ua ub : FVec Ideal S4x512x256 .f32) (uc : FVec Ideal S4x256x1 .f32)
    (r : Fin 8192) :
    attention x ua ub uc (ix2 0 r)
      = rowA (fun k => x (ix2 r k)) (fun e k l => ua (ix3 e k l)) (fun e k l => ub (ix3 e k l)) (fun e l => uc (ix3 e l 0)) := by
  pointwise [attention, scores, project, gate, rowA, sg]

end Reference

section Kernel
open Cert.KernelIdeal Cert.KernelIdeal.Gen Cert.KernelIdeal.Bridge

/-- A block's hidden layer, row by row. -/
theorem pay13_at (h : Vec Ideal S2048x1024 .f32) (w : Vec Ideal S512x1024 .f32) (b : Vec Ideal S1x512 .f32)
    (r : Fin 2048) (l : Fin 512) :
    k0_pay13 (F := Ideal) h w b (ix2 r l)
      = rowX (fun k => h (ix2 r k)) (fun l k => w (ix2 l k)) (fun l => b (ix2 0 l)) l := by
  pointwise [k0_pay13, rowX]

/-- A block's attention, row by row. -/
theorem att_at (h : Vec Ideal S2048x1024 .f32) (w : Vec Ideal S512x1024 .f32) (b : Vec Ideal S1x512 .f32)
    (ua ub : Vec Ideal S4x512x256 .f32) (uc : Vec Ideal S4x1x256 .f32) (r : Fin 2048) :
    k0_pay1 (F := Ideal) (halfAtt h w b ua ub uc) (ix2 0 r)
      = rowA (fun k => k0_pay13 (F := Ideal) h w b (ix2 r k)) (fun e k l => ua (ix3 e k l)) (fun e k l => ub (ix3 e k l))
          (fun e l => uc (ix3 e 0 l)) := by
  unfold halfAtt k0_pay15
  generalize k0_pay13 (F := Ideal) h w b = x
  pointwise [k0_pay1, k0_pay14, k0_pay16, k0_pay17, k0_pay18, k0_pay19, k0_pay20]
  simp only [rowA, Fin.sum_univ_four, sg_eq]
  refine congrArg sg (congrArg₂ _ (congrArg₂ _ (congrArg₂ _ ?_ ?_) ?_) ?_) <;>
    exact Finset.sum_congr rfl fun l _ => mul_comm _ _

end Kernel

end Cert.Rows

end
-- ==== Proof.Arrays.lean ====
/- What a block's rows are of the whole arrays, what the two running sums hold after the last point, and so what the pooled row is:
   the reference's attention, hidden layer and pooled row of the kernel's own arguments. -/
module

public import proofs.«01_k».proof.Proof.Rows
public import Idealize.ShloMosaic.Lib.Claim

@[expose] public section

set_option maxRecDepth 16384

noncomputable section

namespace Cert.KernelIdeal.Bridge

open Cert.KernelIdeal Cert.KernelIdeal.Gen Cert.Rows
open Idealize.ShloMosaic Idealize.ShloMosaic.TcCoe Idealize.SL.Sem

variable (m : (ℓ : Loc nD τ sig) → Buf (Elt Ideal) ℓ)

/-- The reference's hidden layer of the kernel's arguments. -/
def RX (c : Dev nD) : FVec Ideal Cert.ReferenceIdeal.S8192x512 .f32 :=
  Cert.ReferenceIdeal.Host.hidden (F := Ideal) (m ((c : Thread nD τ).loc main_arg0)) (m ((c : Thread nD τ).loc main_arg1))
    (m ((c : Thread nD τ).loc main_arg2))
/-- The reference's attention row of the kernel's arguments. -/
def RA (c : Dev nD) : FVec Ideal Cert.ReferenceIdeal.S1x8192 .f32 :=
  Cert.ReferenceIdeal.Host.attention (F := Ideal) (RX m c) (m ((c : Thread nD τ).loc main_arg3))
    (m ((c : Thread nD τ).loc main_arg4)) (m ((c : Thread nD τ).loc main_arg5))
/-- The reference's pooled row of the kernel's arguments. -/
def RM (c : Dev nD) : FVec Ideal Cert.ReferenceIdeal.S1x512 .f32 := Cert.ReferenceIdeal.Host.pooled (F := Ideal) (RA m c) (RX m c)

/-- The blocks' places: the input rows advance with the point, the attention's columns too, every other window stays. -/
theorem idx : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![0, 0, 0]
    ∧ win0_6.index t = ![0, 0] ∧ win0_7.index t = ![0, 0] ∧ win0_8.index t = ![0, 0] ∧ win0_9.index t = ![0, t.val] ∧ t.val < 4 :=
  (by decide +kernel : ∀ t : Fin grid0.N, _)

/-- The array row of row `r` of block `t`. -/
def row (t : Fin cfg0.N) (r : Fin 2048) : Fin 8192 :=
  ⟨t.val * 2048 + r.val, by have := (idx t).2.2.2.2.2.2.2.2.2.2; omega⟩

/-- Block `t` of the input rows. -/
theorem rows_read (c : Dev nD) (t : Fin cfg0.N) (r : Fin 2048) (k : Fin 1024) :
    iblk m c 0 t (ix2 r k) = m ((c : Thread nD τ).loc main_arg0) (ix2 (row t r) k) := by
  unfold row; blk_ext [iblk, V, idx t]
/-- The hidden weights, whole. -/
theorem weights_read (c : Dev nD) (t : Fin cfg0.N) : iblk m c 1 t = m ((c : Thread nD τ).loc main_arg1) := by
  blk_ext! [iblk, V, idx t]
/-- The hidden bias, reshaped to a row. -/
theorem bias_read (c : Dev nD) (t : Fin cfg0.N) (l : Fin 512) :
    iblk m c 2 t (ix2 0 l) = m ((c : Thread nD τ).loc main_arg2) (ix1 l) := by
  blk_simp [iblk]; entry_read; pointwise; blk_ext [idx t]
/-- The experts' first projections, whole. -/
theorem ua_read (c : Dev nD) (t : Fin cfg0.N) : iblk m c 3 t = m ((c : Thread nD τ).loc main_arg3) := by
  blk_ext! [iblk, V, idx t]
/-- The experts' second projections, whole. -/
theorem ub_read (c : Dev nD) (t : Fin cfg0.N) : iblk m c 4 t = m ((c : Thread nD τ).loc main_arg4) := by
  blk_ext! [iblk, V, idx t]
/-- The experts' columns, reshaped to rows. -/
theorem uc_read (c : Dev nD) (t : Fin cfg0.N) (e : Fin 4) (l : Fin 256) :
    iblk m c 5 t (ix3 e 0 l) = m ((c : Thread nD τ).loc main_arg5) (ix3 e l 0) := by
  blk_simp [iblk]; entry_read; pointwise; blk_ext [idx t]
/-- The classifier's weights, whole. -/
theorem cls_read (c : Dev nD) (t : Fin cfg0.N) : iblk m c 6 t = m ((c : Thread nD τ).loc main_arg6) := by
  blk_ext! [iblk, V, idx t]
/-- The classifier's bias, reshaped to a row. -/
theorem clsb_read (c : Dev nD) (t : Fin cfg0.N) (l : Fin 2) :
    iblk m c 7 t (ix2 0 l) = m ((c : Thread nD τ).loc main_arg7) (ix1 l) := by
  blk_simp [iblk]; entry_read; pointwise; blk_ext [idx t]
/-- The codebook, whole. -/
theorem code_read (c : Dev nD) (t : Fin cfg0.N) : iblk m c 8 t = m ((c : Thread nD τ).loc main_arg8) := by
  blk_ext! [iblk, V, idx t]

/-- A block's hidden rows are those rows of the whole hidden layer. -/
theorem bx_at (c : Dev nD) (t : Fin cfg0.N) (r : Fin 2048) (l : Fin 512) :
    bx m c t (ix2 r l) = RX m c (ix2 (row t r) l) := by
  refine (pay13_at _ _ _ r l).trans (Eq.trans ?_ (hidden_at _ _ _ (row t r) l).symm)
  have e0 := funext (rows_read m c t r)
  have e1 := weights_read m c t
  have e2 := funext (bias_read m c t)
  rw [e0, e1, e2]

/-- A block's attention is that stretch of the whole attention row. -/
theorem ba_at (c : Dev nD) (t : Fin cfg0.N) (r : Fin 2048) :
    k0_pay1 (ba m c t) (ix2 0 r) = RA m c (ix2 0 (row t r)) := by
  refine (att_at _ _ _ _ _ _ r).trans (Eq.trans ?_ (attention_at _ _ _ _ (row t r)).symm)
  have e : (fun k => k0_pay13 (F := Ideal) (iblk m c 0 t) (iblk m c 1 t) (iblk m c 2 t) (ix2 r k))
      = fun k => RX m c (ix2 (row t r) k) := funext fun k => bx_at m c t r k
  have e3 := ua_read m c t
  have e4 := ub_read m c t
  have e5 := funext fun e => funext (uc_read m c t e)
  rw [e, e3, e4, e5]

/-- What a point adds to the weighted sum. -/
theorem pay2_at (x : FVec Ideal S2048x512 .bf16) (a : FVec Ideal S1x2048 .f32) (p : Vec Ideal S1x512 .f32) (l : Fin 512) :
    k0_pay2 (F := Ideal) x a p (ix2 0 l) = p (ix2 0 l) + ∑ r, k0_pay1 (F := Ideal) a (ix2 0 r) * x (ix2 r l) := by
  pointwise [k0_pay2]

/-- What a point adds to the sum of weights. -/
theorem pay3_at (a : FVec Ideal S1x2048 .f32) (s : EReal) :
    k0_pay3 (F := Ideal) a s = s + ∑ r, k0_pay1 (F := Ideal) a (ix2 0 r) := by
  pointwise [k0_pay3]
  simp

/-- The zero row the weighted sum starts at. -/
theorem pay12_at (l : Fin 512) : k0_pay12 (F := Ideal) (ix2 0 l) = 0 := by
  pointwise [k0_pay12]

/-- The weighted sum after the last point, entry by entry: over all the rows of the array. -/
theorem psum_last (c : Dev nD) (l : Fin 512) :
    psum m c t0_3.val t0_3.isLt (ix2 0 l) = ∑ r : Fin 8192, RA m c (ix2 0 r) * RX m c (ix2 r l) := by
  have part : ∀ t : Fin cfg0.N, ∑ r, k0_pay1 (F := Ideal) (ba m c t) (ix2 0 r) * bx m c t (ix2 r l)
      = ∑ r, RA m c (ix2 0 (row t r)) * RX m c (ix2 (row t r) l) := fun t =>
    Finset.sum_congr rfl fun r _ => by rw [ba_at, bx_at]
  have key := Pipeline.eq_sum_fin_of_reset_step_apply_last (M := EReal) (ι := Unit)
    (fun n h _ => psum m c n h (ix2 0 l)) 4 (fun _ => 0)
    (fun t _ => ∑ r, RA m c (ix2 0 (row t r)) * RX m c (ix2 (row t r) l))
    (fun t h _ => by rw [psum_reset m c t h]; exact (pay2_at _ _ _ l).trans (by rw [pay12_at, part]))
    (fun t h _ => by rw [psum_step m c t h]; exact (pay2_at _ _ _ l).trans (by rw [part]))
    (le_of_eq N_0) t0_3 rfl ()
  refine key.trans ?_
  rw [zero_add, Fin.sum_univ_tiles 4 2048 rfl]
  exact Fintype.sum_equiv (finCongr N_0) _ _ fun t => rfl

/-- The sum of weights after the last point: over all the entries of the attention row. -/
theorem ssum_last (c : Dev nD) :
    ssum m c t0_3.val t0_3.isLt (ix1 0) = ∑ r : Fin 8192, RA m c (ix2 0 r) := by
  have part : ∀ t : Fin cfg0.N, ∑ r, k0_pay1 (F := Ideal) (ba m c t) (ix2 0 r)
      = ∑ r, RA m c (ix2 0 (row t r)) := fun t => Finset.sum_congr rfl fun r _ => by rw [ba_at]
  have key := Pipeline.eq_sum_fin_of_reset_step_apply_last (M := EReal) (ι := Unit)
    (fun n h _ => ssum m c n h (ix1 0)) 4 (fun _ => 0) (fun t _ => ∑ r, RA m c (ix2 0 (row t r)))
    (fun t h _ => by
      rw [ssum_reset m c t h]; exact (pay3_at _ _).trans (by rw [part]; exact congrArg (· + _) Ideal.ofBits_zero_f32))
    (fun t h _ => by rw [ssum_step m c t h]; exact (pay3_at _ _).trans (by rw [part]))
    (le_of_eq N_0) t0_3 rfl ()
  refine key.trans ?_
  rw [zero_add, Fin.sum_univ_tiles 4 2048 rfl]
  exact Fintype.sum_equiv (finCongr N_0) _ _ fun t => rfl

/-- The reference's pooled row, entry by entry. -/
theorem RM_at (c : Dev nD) (l : Fin 512) :
    RM m c (ix2 0 l) = Ideal.div (∑ r, RA m c (ix2 0 r) * RX m c (ix2 r l)) (∑ r, RA m c (ix2 0 r)) := by
  unfold RM
  generalize RA m c = a
  generalize RX m c = x
  pointwise [Cert.ReferenceIdeal.Host.pooled]
  simp

/-- The kernel's division of a weighted sum by a sum of weights. -/
theorem pay5_at (p : Vec Ideal S1x512 .f32) (s : EReal) (l : Fin 512) :
    k0_pay5 (F := Ideal) p s (ix2 0 l) = Ideal.div (p (ix2 0 l)) s := by
  pointwise [k0_pay5]

/-- The kernel's pooled row at the last point is the reference's. -/
theorem bm_last (c : Dev nD) : bm m c t0_3 = RM m c := by
  have h : ∀ l : Fin 512, bm m c t0_3 (ix2 0 l) = RM m c (ix2 0 l) := fun l => by
    refine (pay5_at _ _ l).trans ?_
    rw [psum_last, ssum_last, RM_at]
  funext j
  have := h (j 1)
  have e : j = ix2 0 (j 1) := by idx_ext
  rw [e]; exact this

end Cert.KernelIdeal.Bridge

end
-- ==== Proof.Tail.lean ====
/- The classifier's tail: logits, softmax, the class, and the reference's row taken at the top index, which is the row itself. -/
module

public import proofs.«01_k».proof.Proof.Rows

@[expose] public section

set_option maxRecDepth 16384

noncomputable section

namespace Cert.Tail

open Idealize.ShloMosaic
open Cert.KernelIdeal Cert.KernelIdeal.Gen

/-- The kernel's logits are the reference's, the bias being a row here and a vector there. -/
theorem logits_eq (m : FVec Ideal S1x512 .f32) (w : Vec Ideal S2x512 .f32) (b : Vec Ideal S1x2 .f32)
    (b' : FVec Ideal Cert.ReferenceIdeal.S2 .f32) (hb : ∀ l : Fin 2, b (ix2 0 l) = b' (ix1 l)) (l : Fin 2) :
    k0_pay7 (F := Ideal) m w b (ix2 0 l) = Cert.ReferenceIdeal.Host.logits (F := Ideal) m w b' (ix2 0 l) := by
  pointwise [k0_pay7, Cert.ReferenceIdeal.Host.logits]
  rw [hb]

/-- The kernel's softmax is the reference's, which takes one more maximum with minus infinity. -/
theorem softmax_eq (m : FVec Ideal S1x512 .f32) (w : Vec Ideal S2x512 .f32) (b : Vec Ideal S1x2 .f32) (l : Fin 2) :
    k0_pay8 (F := Ideal) m w b (ix2 0 l)
      = Cert.ReferenceIdeal.Host.softmax (F := Ideal) (k0_pay7 (F := Ideal) m w b) (ix2 0 l) := by
  unfold k0_pay8
  generalize k0_pay7 (F := Ideal) m w b = o
  pointwise [Cert.ReferenceIdeal.Host.softmax, Cert.ReferenceIdeal.Host.expShift]
  rw [Cert.Maths.neg_inf_eq, max_eq_right bot_le]

/-- The kernel's first masked sum is the first logit. -/
theorem first_logit (m : FVec Ideal S1x512 .f32) (w : Vec Ideal S2x512 .f32) (b : Vec Ideal S1x2 .f32) :
    k0_pay9 (F := Ideal) m w b = k0_pay7 (F := Ideal) m w b (ix2 0 0) := by
  unfold k0_pay9
  generalize k0_pay7 (F := Ideal) m w b = o
  pointwise
  simp [Fin.sum_univ_two, IntOp.cmpi, Scalar.select]

/-- The kernel's second masked sum is the second logit. -/
theorem second_logit (m : FVec Ideal S1x512 .f32) (w : Vec Ideal S2x512 .f32) (b : Vec Ideal S1x2 .f32) :
    k0_pay10 (F := Ideal) m w b = k0_pay7 (F := Ideal) m w b (ix2 0 1) := by
  unfold k0_pay10
  generalize k0_pay7 (F := Ideal) m w b = o
  pointwise
  simp [Fin.sum_univ_two, IntOp.cmpi, Scalar.select]

/-- A stable sort of two positions puts the second first exactly when it sorts before the first. -/
theorem sorted_two (before : Fin 2 → Fin 2 → Bool) :
    sortedFrom before 0 = if before 1 0 = true then 1 else 0 := by
  have h : sortPositions 2 before = if before 1 0 = true then [1, 0] else [0, 1] := by
    simp only [sortPositions, List.finRange_succ, List.finRange_zero, List.map_nil, List.map_cons, stableSort, insertBefore]
    rfl
  unfold sortedFrom
  split
  · rename_i h1; simp [h, h1]
  · rename_i h1; simp [h, h1]

/-- The reference's class: one when the second logit is greater, else zero. -/
theorem predicted_eq (o : FVec Ideal Cert.ReferenceIdeal.S1x2 .f32) :
    Cert.ReferenceIdeal.Host.predicted (F := Ideal) o (ix2 0 0) = if o (ix2 0 0) < o (ix2 0 1) then 1#32 else 0#32 := by
  have along : ∀ (j : Cert.ReferenceIdeal.S1x2.Idx) (k : Fin 2), j.along (1 : Fin 2) k = ix2 0 k := fun j k => by
    funext a
    fin_cases a
    · exact Subsingleton.elim (α := Fin 1) _ _
    · exact Function.update_self _ _ _
  have h : Cert.ReferenceIdeal.Host.predicted (F := Ideal) o (ix2 0 0)
      = BitVec.ofNat 32 (sortedFrom (n := 2) (fun k k' => Ideal.cmp .ogt (o (ix2 0 k)) (o (ix2 0 k')) == 1#1) 0).val := by
    unfold Cert.ReferenceIdeal.Host.predicted Host.topK Host.sort2
    show BitVec.ofNat 32 ((Shape.Idx.along (s := Cert.ReferenceIdeal.S1x2) _ (1 : Fin 2)
      (sortedFrom (n := 2) (fun k k' => Ideal.cmp .ogt (o (Shape.Idx.along (s := Cert.ReferenceIdeal.S1x2) _ (1 : Fin 2) k))
        (o (Shape.Idx.along (s := Cert.ReferenceIdeal.S1x2) _ (1 : Fin 2) k')) == 1#1) _)) (1 : Fin 2)).val = _
    simp only [along]
    rfl
  rw [h, sorted_two]
  by_cases h : o (ix2 0 0) < o (ix2 0 1)
  · simp [Ideal.cmp, h]
  · simp [Ideal.cmp, h]

/-- The kernel's class is the reference's of its logits. -/
theorem class_eq (m : FVec Ideal S1x512 .f32) (w : Vec Ideal S2x512 .f32) (b : Vec Ideal S1x2 .f32) :
    k0_pay4 (Scalar.cmpf .ogt (k0_pay10 (F := Ideal) m w b) (k0_pay9 (F := Ideal) m w b)) (ix2 0 0)
      = Cert.ReferenceIdeal.Host.predicted (F := Ideal) (k0_pay7 (F := Ideal) m w b) (ix2 0 0) := by
  rw [first_logit, second_logit, predicted_eq]
  generalize k0_pay7 (F := Ideal) m w b = o
  pointwise [k0_pay4]
  by_cases h : o (ix2 0 0) < o (ix2 0 1)
  · rw [if_pos h]
    simp [Scalar.cmpf, Ideal.cmpf_def, Ideal.cmp, h]
  · rw [if_neg h]
    simp [Scalar.cmpf, Ideal.cmpf_def, Ideal.cmp, h]

/-- The top index among one entry is zero. -/
theorem topIndex_eq (p : FVec Ideal Cert.ReferenceIdeal.S1x2 .f32) :
    Cert.ReferenceIdeal.Host.topIndex (F := Ideal) p = fun _ => 0#32 := by
  funext j
  unfold Cert.ReferenceIdeal.Host.topIndex Host.topK Host.sort2
  have h : ∀ i : Cert.ReferenceIdeal.S1.Idx, iotaInDim Cert.ReferenceIdeal.S1 32 0 i = 0#32 := fun i => by
    have e : (i 0).val = 0 := by have := (i 0).isLt; change _ < 1 at this; omega
    show BitVec.ofNat 32 (i 0).val = _
    rw [e]
  exact h _

/-- The rows taken at index zero are the one row there is. -/
theorem takeRow_eq (o : FVec Ideal Cert.ReferenceIdeal.S1x2 .f32) (l : Fin 2) :
    Cert.ReferenceIdeal.Host.takeRow (F := Ideal) o (fun _ => 0#32) (ix2 0 l) = o (ix2 0 l) := by
  have hw : Cert.ReferenceIdeal.Host.wrapped (fun _ => 0#32) = fun _ => 0#32 := by
    funext j; rfl
  have hr : Cert.ReferenceIdeal.Host.inRange (fun _ => 0#32) (ix1 0) = 1#1 := by
    pointwise [Cert.ReferenceIdeal.Host.inRange]
    decide
  pointwise [Cert.ReferenceIdeal.Host.takeRow]
  rw [hw, hr]
  show o _ = _
  congr 1
  funext a
  fin_cases a
  · rfl
  · apply Fin.ext
    show GatherDims.start _ _ _ _ + GatherDims.batchCoord _ _ _ + GatherDims.offCoord _ _ _ = _
    rw [GatherDims.batchCoord_eq_zero _ _ _ List.not_mem_nil]
    have hs : GatherDims.start Cert.ReferenceIdeal.gather_S1x2_S1x1_S1x2_1_0_n_n_0_1_12 (ix2 0 l) (fun _ => 0#32) (1 : Fin 2) = 0 := by
      unfold GatherDims.start
      exact dif_neg (by decide)
    have ho : GatherDims.offCoord Cert.ReferenceIdeal.gather_S1x2_S1x1_S1x2_1_0_n_n_0_1_12 (ix2 0 l) (1 : Fin 2) = l.val := by
      unfold GatherDims.offCoord
      exact (dif_pos (by decide)).trans rfl
    exact (congrArg₂ (fun a b => a + 0 + b) hs ho).trans (by simp)

end Cert.Tail

end
-- ==== Proof.Nearest.lean ====
/- The nearest code two ways: a fold over (distance, index) pairs that keeps the first least one, and the least index among
   those whose distance is the least. Both give the same index. -/
module

public import proofs.«01_k».proof.Proof.Rows

@[expose] public section

set_option maxRecDepth 16384

noncomputable section

namespace Cert.Nearest

open Idealize.ShloMosaic
open Cert.ReferenceIdeal Cert.ReferenceIdeal.Gen

/-- The pair `p` is no later than `q`: a smaller value, or the same value at an index no greater. -/
def NoLater (p q : EReal × BitVec 32) : Prop := p.1 < q.1 ∨ (p.1 = q.1 ∧ p.2.toInt ≤ q.2.toInt)

/-- Every pair is no later than itself. -/
theorem NoLater.refl (p : EReal × BitVec 32) : NoLater p p := .inr ⟨rfl, le_rfl⟩

/-- The order is transitive. -/
theorem NoLater.trans {p q r : EReal × BitVec 32} (h : NoLater p q) (k : NoLater q r) : NoLater p r := by
  rcases h with h | ⟨h, h'⟩ <;> rcases k with k | ⟨k, k'⟩
  · exact .inl (h.trans k)
  · exact .inl (k ▸ h)
  · exact .inl (h ▸ k)
  · exact .inr ⟨h.trans k, h'.trans k'⟩

/-- The reducer returns one of its two pairs, and one no later than either. -/
theorem reducer_least (a b : EReal × BitVec 32) :
    (reducer_argmin_f32_i32 (F := Ideal) a b = a ∨ reducer_argmin_f32_i32 (F := Ideal) a b = b)
      ∧ NoLater (reducer_argmin_f32_i32 (F := Ideal) a b) a ∧ NoLater (reducer_argmin_f32_i32 (F := Ideal) a b) b := by
  have e : reducer_argmin_f32_i32 (F := Ideal) a b
      = (if a.1 < b.1 then a.1 else b.1, if a.1 < b.1 ∨ (a.1 = b.1 ∧ a.2.toInt < b.2.toInt) then a.2 else b.2) := by
    simp only [reducer_argmin_f32_i32, Ideal.cmpf_def, Ideal.cmp, IntOp.cmpi, BitVec.slt_iff_toInt_lt]
    by_cases h : a.1 < b.1 <;> by_cases k : a.1 = b.1 <;> by_cases l : a.2.toInt < b.2.toInt <;>
      simp [h, k, l, Scalar.select, IntOp.ori, IntOp.andi, BitVec.slt_iff_toInt_lt, BitVec.slt]
  obtain ⟨a1, a2⟩ := a
  obtain ⟨b1, b2⟩ := b
  rw [e]
  dsimp only
  rcases lt_trichotomy a1 b1 with h | h | h
  · simp only [h, if_true, true_or]
    exact ⟨trivial, .refl _, .inl h⟩
  · subst h
    simp only [lt_irrefl, if_false, false_or, true_and]
    by_cases l : a2.toInt < b2.toInt
    · simp only [l, if_true]
      exact ⟨.inl trivial, .refl _, .inr ⟨rfl, l.le⟩⟩
    · simp only [l, if_false]
      exact ⟨.inr trivial, .inr ⟨rfl, not_lt.mp l⟩, .refl _⟩
  · simp only [h.not_gt, h.ne', if_false, false_and, or_false]
    exact ⟨.inr trivial, .inl h, .refl _⟩

/-- The fold returns its start or a pair of the list, no later than the start and every pair. -/
theorem fold_least (l : List (EReal × BitVec 32)) (a : EReal × BitVec 32) :
    (l.foldl (reducer_argmin_f32_i32 (F := Ideal)) a = a ∨ l.foldl (reducer_argmin_f32_i32 (F := Ideal)) a ∈ l)
      ∧ NoLater (l.foldl (reducer_argmin_f32_i32 (F := Ideal)) a) a
      ∧ ∀ p ∈ l, NoLater (l.foldl (reducer_argmin_f32_i32 (F := Ideal)) a) p := by
  induction l generalizing a with
  | nil => exact ⟨.inl rfl, .refl _, fun p hp => absurd hp List.not_mem_nil⟩
  | cons b l ih =>
    rw [List.foldl_cons]
    obtain ⟨h1, h2, h3⟩ := reducer_least a b
    obtain ⟨i1, i2, i3⟩ := ih (reducer_argmin_f32_i32 (F := Ideal) a b)
    refine ⟨?_, i2.trans h2, fun p hp => ?_⟩
    · rcases i1 with i1 | i1
      · rcases h1 with h1 | h1
        · exact .inl (i1.trans h1)
        · exact .inr (by rw [i1, h1]; exact List.mem_cons_self)
      · exact .inr (List.mem_cons_of_mem _ i1)
    · rcases List.mem_cons.mp hp with rfl | hp
      · exact i2.trans h3
      · exact i3 p hp

/-- A code's index as a word is its number. -/
theorem toInt_code (k : Fin 256) : (BitVec.ofNat 32 k.val).toInt = k.val := by
  have := k.isLt
  simp only [BitVec.toInt, BitVec.toNat_ofNat]
  omega

/-- `k` is the first code of least distance. -/
def First (d : Fin 256 → EReal) (k : Fin 256) : Prop := ∀ i, d k < d i ∨ (d k = d i ∧ k ≤ i)

/-- The reference's nearest code is the first code of least distance. -/
theorem nearest_first (d : FVec Ideal S1x256 .f32) :
    ∃ k : Fin 256, Host.nearest (F := Ideal) d (ix1 0) = BitVec.ofNat 32 k.val ∧ First (fun i => d (ix2 0 i)) k := by
  have fiber : ∀ p : EReal × BitVec 32,
      p ∈ Host.argReduceFiber d (iotaInDim S1x256 32 1) reducesTo_S1x256_S1_d1 (ix1 0 : S1.Idx)
        ↔ ∃ i : Fin 256, p = (d (ix2 0 i), BitVec.ofNat 32 i.val) := fun p => by
    unfold Host.argReduceFiber
    simp only [List.mem_map, List.mem_filter, List.mem_finRange, true_and, decide_eq_true_eq]
    constructor
    · rintro ⟨n, -, rfl⟩
      generalize S1x256.rowMajor.symm n = i
      have e : i = ix2 0 (i 1) := by
        funext a
        fin_cases a
        · exact Subsingleton.elim (α := Fin 1) _ _
        · rfl
      exact ⟨i 1, Prod.ext (congrArg d e) rfl⟩
    · rintro ⟨i, rfl⟩
      refine ⟨S1x256.rowMajor (ix2 0 i), ?_, ?_⟩
      · funext a
        fin_cases a
        exact Subsingleton.elim (α := Fin 1) _ _
      · rw [Equiv.symm_apply_apply]; rfl
  have e : Host.nearest (F := Ideal) d (ix1 0)
      = ((Host.argReduceFiber d (iotaInDim S1x256 32 1) reducesTo_S1x256_S1_d1 (ix1 0 : S1.Idx)).foldl
          (reducer_argmin_f32_i32 (F := Ideal)) ((⊤ : EReal), 0#32)).2 := by
    unfold Host.nearest
    rw [Ideal.argReduce_eq_reduce2, Host.reduce2_eq_foldl_fiber]
    show (List.foldl _ (Ideal.ofBits .f32 0x7F800000#32, 0#32) _).2 = _
    rw [Cert.Maths.pos_inf_eq]
  obtain ⟨h1, h2, h3⟩ := fold_least
    (Host.argReduceFiber d (iotaInDim S1x256 32 1) reducesTo_S1x256_S1_d1 (ix1 0 : S1.Idx)) ((⊤ : EReal), 0#32)
  rw [e]
  generalize List.foldl (reducer_argmin_f32_i32 (F := Ideal)) ((⊤ : EReal), 0#32) _ = r at h1 h2 h3
  have at_code : ∀ k : Fin 256, r = (d (ix2 0 k), BitVec.ofNat 32 k.val) → First (fun i => d (ix2 0 i)) k := fun k hk i => by
    have := h3 _ ((fiber _).mpr ⟨i, rfl⟩)
    rw [hk] at this
    rcases this with h | ⟨h, h'⟩
    · exact .inl h
    · refine .inr ⟨h, ?_⟩
      dsimp only at h'
      rw [toInt_code, toInt_code] at h'
      exact Fin.le_def.mpr (by omega)
  rcases h1 with h1 | h1
  · have h0 := h3 _ ((fiber _).mpr ⟨0, rfl⟩)
    rw [h1] at h0
    have ht : (⊤ : EReal) = d (ix2 0 0) := by
      rcases h0 with h | ⟨h, -⟩
      · exact absurd h not_top_lt
      · exact h
    have hr : r = (d (ix2 0 (0 : Fin 256)), BitVec.ofNat 32 (0 : Fin 256).val) := by rw [h1, ← ht]; rfl
    exact ⟨0, by rw [hr], at_code 0 hr⟩
  · obtain ⟨k, hk⟩ := (fiber r).mp h1
    exact ⟨k, by rw [hk], at_code k hk⟩

/-- The signed minimum of two words has the lesser number. -/
theorem toInt_minsi (x y : BitVec 32) : (IntOp.minsi x y).toInt = min x.toInt y.toInt := by
  unfold IntOp.minsi
  by_cases h : x.slt y = true
  · rw [if_pos h, min_eq_left (BitVec.slt_iff_toInt_lt.mp h).le]
  · rw [if_neg h, min_eq_right (not_lt.mp fun k => h (BitVec.slt_iff_toInt_lt.mpr k))]

/-- The least index among the codes whose distance is the least is the first such code. -/
theorem least_index {ι : Type} [Fintype ι] (code : ι → Fin 256) (hc : Function.Surjective code) (d : Fin 256 → EReal)
    (k : Fin 256) (hk : First d k) :
    Finset.fold IntOp.minsi 2147483647#32 (fun x => if d (code x) = Finset.fold min ⊤ (fun x => d (code x)) Finset.univ
      then BitVec.ofNat 32 (code x).val else 256#32) Finset.univ = BitVec.ofNat 32 k.val := by
  have hm : Finset.fold min ⊤ (fun x => d (code x)) Finset.univ = d k := by
    obtain ⟨x, hx⟩ := hc k
    refine le_antisymm (Finset.fold_min_le _ |>.mpr (.inr ⟨x, Finset.mem_univ _, by rw [hx]⟩))
      (Finset.le_fold_min _ |>.mpr ⟨le_top, fun x _ => ?_⟩)
    rcases hk (code x) with h | ⟨h, -⟩
    · exact h.le
    · exact h.le
  rw [hm]
  refine BitVec.eq_of_toInt_eq ?_
  rw [← Finset.fold_hom (op' := min) (m := BitVec.toInt) toInt_minsi, toInt_code]
  obtain ⟨x, hx⟩ := hc k
  have := k.isLt
  refine le_antisymm (Finset.fold_min_le _ |>.mpr (.inr ⟨x, Finset.mem_univ _, by rw [hx, if_pos rfl, toInt_code]⟩))
    (Finset.le_fold_min _ |>.mpr ⟨?_, fun x _ => ?_⟩)
  · have : (2147483647#32).toInt = 2147483647 := by decide
    omega
  · by_cases h : d (code x) = d k
    · rw [if_pos h, toInt_code]
      rcases hk (code x) with h' | ⟨-, h'⟩
      · exact absurd h h'.ne'
      · have := Fin.le_def.mp h'; omega
    · rw [if_neg h]
      have : (256#32).toInt = 256 := by decide
      omega

end Cert.Nearest

end
-- ==== Proof.Loss.lean ====
/- The quantization loss of the pooled row: the kernel's one-hot row, coded row and scaling against the reference's. -/
module

public import proofs.«01_k».proof.Proof.Nearest

@[expose] public section

set_option maxRecDepth 16384

noncomputable section

namespace Cert.Loss

open Idealize.ShloMosaic
open Cert.KernelIdeal Cert.KernelIdeal.Gen
open Cert.ReferenceIdeal.Host (nearest distances coded meanSq)

/-- The one-hot entry, made through a wider word or straight from the compare's bit. -/
theorem one_hot (x y : BitVec 32) :
    FloatOps.sitofp (F := Ideal) .f32 (BitVec.setWidth 32 (IntOp.cmpi .eq x y)) = FloatOps.uitofp .f32 (IntOp.cmpi .eq y x) := by
  by_cases h : x = y
  · subst h
    simp only [IntOp.cmpi, beq_self_eq_true]
    show ((((BitVec.setWidth 32 (BitVec.ofBool true)).toInt : ℤ) : ℝ) : EReal) = (((BitVec.ofBool true).toNat : ℝ) : EReal)
    simp
  · simp only [IntOp.cmpi, beq_eq_false_iff_ne.mpr h, beq_eq_false_iff_ne.mpr (Ne.symm h)]
    show ((((BitVec.setWidth 32 (BitVec.ofBool false)).toInt : ℤ) : ℝ) : EReal) = (((BitVec.ofBool false).toNat : ℝ) : EReal)
    simp

/-- The reference's distances, code by code. -/
theorem distances_at (m : FVec Ideal S1x512 .f32) (cb : FVec Ideal S256x512 .f32) (i : Fin 256) :
    distances (F := Ideal) m cb (ix2 0 i)
      = ∑ k, m (ix2 0 k) * m (ix2 0 k) + ∑ k, cb (ix2 i k) * cb (ix2 i k)
        + Ideal.ofBits .f32 0x40000000#32 * ∑ k, cb (ix2 i k) * m (ix2 0 k) := by
  pointwise [distances]
  simp only [mul_comm]

/-- The reference's coded row, entry by entry. -/
theorem coded_at (d : FVec Ideal Cert.ReferenceIdeal.S1x256 .f32) (cb : FVec Ideal S256x512 .f32) (l : Fin 512) :
    coded (F := Ideal) d cb (ix2 0 l)
      = ∑ i : Fin 256, FloatOps.uitofp .f32 (IntOp.cmpi .eq (nearest (F := Ideal) d (ix1 0)) (BitVec.ofNat 32 i.val)) * cb (ix2 i l) := by
  unfold coded
  generalize nearest (F := Ideal) d = n
  pointwise

/-- The kernel's five quarters of the squared differences between the coded row and the pooled row. -/
theorem pay6_eq (p : Vec Ideal S1x512 .f32) (s : EReal) (cb : Vec Ideal S256x512 .f32) :
    k0_pay6 (F := Ideal) p s cb = Ideal.ofBits .f32 0x3FA00000#32 *
      ∑ l, (coded (F := Ideal) (distances (F := Ideal) (k0_pay5 (F := Ideal) p s) cb) cb (ix2 0 l) - k0_pay5 (F := Ideal) p s (ix2 0 l))
        * (coded (F := Ideal) (distances (F := Ideal) (k0_pay5 (F := Ideal) p s) cb) cb (ix2 0 l) - k0_pay5 (F := Ideal) p s (ix2 0 l)) := by
  unfold k0_pay6
  generalize k0_pay5 (F := Ideal) p s = m
  obtain ⟨k, hk, hf⟩ := Cert.Nearest.nearest_first (distances (F := Ideal) m cb)
  simp only [coded_at, hk]
  simp only [distances_at] at hf
  pointwise
  simp only [Finset.univ_unique, Finset.sum_const, Finset.card_singleton, one_smul, Cert.Maths.pos_inf_eq]
  rw [Cert.Nearest.least_index (fun x => x.1) (fun i => ⟨(i, 0), rfl⟩) _ k hf]
  simp only [one_hot]

/-- The squared differences' sum is not negative. -/
theorem squares_nonneg (f : Fin 512 → EReal) : 0 ≤ ∑ l, f l * f l :=
  Finset.sum_nonneg fun l _ => by
    rcases le_total 0 (f l) with h | h
    · exact mul_nonneg h h
    · rw [← neg_mul_neg]; exact mul_nonneg (EReal.neg_nonneg.mpr h) (EReal.neg_nonneg.mpr h)

/-- The kernel's loss is the reference's. -/
theorem loss_eq (p : Vec Ideal S1x512 .f32) (s : EReal) (cb : Vec Ideal S256x512 .f32) (i : Cert.ReferenceIdeal.S_.Idx) :
    k0_pay11 (F := Ideal) (k0_pay6 (F := Ideal) p s cb) (ix2 0 0)
      = Cert.ReferenceIdeal.Host.loss (F := Ideal) (coded (F := Ideal) (distances (F := Ideal) (k0_pay5 (F := Ideal) p s) cb) cb)
          (k0_pay5 (F := Ideal) p s) i := by
  rw [pay6_eq]
  generalize k0_pay5 (F := Ideal) p s = m
  generalize coded (F := Ideal) (distances (F := Ideal) m cb) cb = q
  have h := Cert.Maths.loss_scale (squares_nonneg fun l => q (ix2 0 l) - m (ix2 0 l))
  pointwise [k0_pay11, Cert.ReferenceIdeal.Host.loss, meanSq]
  simp only [Fin.sum_univ_one]
  exact h

end Cert.Loss

end
-- ==== Proof.RefOps.lean ====
/- The reference program's operations in order, cut into short stretches, and the program as their concatenation. -/
module

public import proofs.«01_k».proof.Proof.Gen.ReferenceIdeal
public import Idealize.ShloMosaic.Lib.StableHlo.Run

@[expose] public section

set_option maxRecDepth 16384

noncomputable section

namespace Cert.ReferenceIdeal.Host

open Cert.ReferenceIdeal Cert.ReferenceIdeal.Gen
open Idealize.ShloMosaic Idealize.ShloMosaic.TcCoe Idealize.ShloMosaic.StableHlo Idealize.SL.Sem

variable {F : FTy → Type} [FloatOps F]

/-- Operations of @main, in order — the hidden layer: `%0` to `%5`. -/
abbrev opsX : List (HloOp τ sig (Elt F)) :=
  [ unary main_arg1 main_v0 ((transpose S1024x512 [1, 0] · transposes_S512x1024_S1024x512_1_0)),
    binary main_arg0 main_v0 main_v1 ((fun l r => Host.dotGeneral dot_S8192x1024_S1024x512_S8192x512_1_0_0_1_n_n none l r)),
    unary main_arg2 main_v2 (broadcastInDim S1x512 ![1] bcast_S512_S1x512_1),
    unary main_v2 main_v3 (broadcastInDim S8192x512 ![0, 1] bcast_S1x512_S8192x512_0_1),
    binary main_v1 main_v3 main_v4 (addf),
    TRef.nullary main_call0.cst (constant S_ .f32 0x00000000#32),
    TRef.unary main_call0.cst main_call0.v0 (broadcastInDim S8192x512 ![] bcast_S_S8192x512),
    TRef.binary (.of main_v4) main_call0.v0 main_call0.v1 maximumf ]

/-- Operations of @main, in order — the gated attention row: `%6` to `%26`. -/
abbrev opsA : List (HloOp τ sig (Elt F)) :=
  [ unary main_v5 main_v6 (broadcastInDim S1x8192x512 ![1, 2] bcast_S8192x512_S1x8192x512_1_2),
    unary main_v6 main_v7 (broadcastInDim S4x8192x512 ![0, 1, 2] bcast_S1x8192x512_S4x8192x512_0_1_2),
    binary main_v7 main_arg3 main_v8 ((fun l r => Host.dotGeneral dot_S4x8192x512_S4x512x256_S4x8192x256_2_1_1_2_0_0 none l r)),
    unary main_v8 main_v9 (Host.tanh),
    binary main_v7 main_arg4 main_v10 ((fun l r => Host.dotGeneral dot_S4x8192x512_S4x512x256_S4x8192x256_2_1_1_2_0_0 none l r)),
    unary main_v10 main_v11 (Host.negf),
    unary main_v11 main_v12 (Host.exp),
    nullary main_cst (constant S_ .f32 0x3F800000#32),
    unary main_cst main_v13 (broadcastInDim S4x8192x256 ![] bcast_S_S4x8192x256),
    binary main_v13 main_v12 main_v14 (addf),
    nullary main_cst_0 (constant S_ .f32 0x3F800000#32),
    unary main_cst_0 main_v15 (broadcastInDim S4x8192x256 ![] bcast_S_S4x8192x256),
    binary main_v15 main_v14 main_v16 (Host.divf),
    binary main_v9 main_v16 main_v17 (mulf),
    binary main_v17 main_arg5 main_v18 ((fun l r => Host.dotGeneral dot_S4x8192x256_S4x256x1_S4x8192x1_2_1_1_2_0_0 none l r)),
    nullary main_cst_1 (constant S_ .f32 0x00000000#32),
    binary main_v18 main_cst_1 main_v19 ((fun x v => Host.reduceAdd x v reducesTo_S4x8192x1_S8192x1_d0 h_S_)),
    unary main_v19 main_v20 ((transpose S1x8192 [1, 0] · transposes_S8192x1_S1x8192_1_0)),
    unary main_v20 main_v21 (Host.negf),
    unary main_v21 main_v22 (Host.exp),
    nullary main_cst_2 (constant S_ .f32 0x3F800000#32),
    unary main_cst_2 main_v23 (broadcastInDim S1x8192 ![] bcast_S_S1x8192),
    binary main_v23 main_v22 main_v24 (addf),
    nullary main_cst_3 (constant S_ .f32 0x3F800000#32),
    unary main_cst_3 main_v25 (broadcastInDim S1x8192 ![] bcast_S_S1x8192),
    binary main_v25 main_v24 main_v26 (Host.divf) ]

/-- Operations of @main, in order — the pooled row: `%27` to `%30`. -/
abbrev opsM : List (HloOp τ sig (Elt F)) :=
  [ binary main_v26 main_v5 main_v27 ((fun l r => Host.dotGeneral dot_S1x8192_S8192x512_S1x512_1_0_0_1_n_n none l r)),
    nullary main_cst_4 (constant S_ .f32 0x00000000#32),
    binary main_v26 main_cst_4 main_v28 ((fun x v => Host.reduceAdd x v reducesTo_S1x8192_S_d0_1 h_S_)),
    unary main_v28 main_v29 (broadcastInDim S1x512 ![] bcast_S_S1x512),
    binary main_v27 main_v29 main_v30 (Host.divf) ]

/-- Operations of @main, in order — the distances to the codebook: `%31` to `%43`. -/
abbrev opsD : List (HloOp τ sig (Elt F)) :=
  [ binary main_v30 main_v30 main_v31 (mulf),
    nullary main_cst_5 (constant S_ .f32 0x00000000#32),
    binary main_v31 main_cst_5 main_v32 ((fun x v => Host.reduceAdd x v reducesTo_S1x512_S1_d1 h_S_)),
    unary main_v32 main_v33 (broadcastInDim S1x1 ![0] bcast_S1_S1x1_0),
    binary main_arg8 main_arg8 main_v34 (mulf),
    nullary main_cst_6 (constant S_ .f32 0x00000000#32),
    binary main_v34 main_cst_6 main_v35 ((fun x v => Host.reduceAdd x v reducesTo_S256x512_S256_d1 h_S_)),
    unary main_v35 main_v36 (broadcastInDim S1x256 ![1] bcast_S256_S1x256_1),
    unary main_v33 main_v37 (broadcastInDim S1x256 ![0, 1] bcast_S1x1_S1x256_0_1),
    binary main_v37 main_v36 main_v38 (addf),
    unary main_arg8 main_v39 ((transpose S512x256 [1, 0] · transposes_S256x512_S512x256_1_0)),
    binary main_v30 main_v39 main_v40 ((fun l r => Host.dotGeneral dot_S1x512_S512x256_S1x256_1_0_0_1_n_n none l r)),
    nullary main_cst_7 (constant S_ .f32 0x40000000#32),
    unary main_cst_7 main_v41 (broadcastInDim S1x256 ![] bcast_S_S1x256),
    binary main_v41 main_v40 main_v42 (mulf),
    binary main_v38 main_v42 main_v43 (addf) ]

/-- Operations of @main, in order — the nearest code and its row: `%44` to `%46`. -/
abbrev opsQ : List (HloOp τ sig (Elt F)) :=
  [ TRef.nullary main_call1.v0 (iotaInDim S1x256 32 1),
    TRef.nullary main_call1.cst (constant S_ .f32 0x7F800000#32),
    TRef.nullary main_call1.c (constantI S_ 32 0#32),
    TRef.quaternary (.of main_v43) main_call1.v0 main_call1.cst main_call1.c main_call1.v1_0 (fun x y u v j => (Host.argReduce reducer_argmin_f32_i32 x y u v reducesTo_S1x256_S1_d1 h_S_ j).1),
    TRef.quaternary (.of main_v43) main_call1.v0 main_call1.cst main_call1.c main_call1.v1_1 (fun x y u v j => (Host.argReduce reducer_argmin_f32_i32 x y u v reducesTo_S1x256_S1_d1 h_S_ j).2),
    TRef.unary (.of main_v44 : TRef sig ⟨S1, .i32⟩) main_call2.v0 (broadcastInDim S1x1 ![0] bcast_S1_S1x1_0),
    TRef.nullary main_call2.v1 (iotaInDim S1x256 32 1),
    TRef.unary main_call2.v0 main_call2.v2 (broadcastInDim S1x256 ![0, 1] bcast_S1x1_S1x256_0_1),
    TRef.binary main_call2.v2 main_call2.v1 main_call2.v3 (cmpi .eq),
    TRef.unary main_call2.v3 main_call2.v4 (uitofp .f32),
    binary main_v45 main_arg8 main_v46 ((fun l r => Host.dotGeneral dot_S1x256_S256x512_S1x512_1_0_0_1_n_n none l r)) ]

/-- Operations of @main, in order — the quantization loss: `%47` to `%56`. -/
abbrev opsL : List (HloOp τ sig (Elt F)) :=
  [ binary main_v46 main_v30 main_v47 (subf),
    binary main_v47 main_v47 main_v48 (mulf),
    nullary main_cst_8 (constant S_ .f32 0x00000000#32),
    binary main_v48 main_cst_8 main_v49 ((fun x v => Host.reduceAdd x v reducesTo_S1x512_S_d0_1 h_S_)),
    nullary main_cst_9 (constant S_ .f32 0x44000000#32),
    binary main_v49 main_cst_9 main_v50 (Host.divf),
    binary main_v46 main_v30 main_v51 (subf),
    binary main_v51 main_v51 main_v52 (mulf),
    nullary main_cst_10 (constant S_ .f32 0x00000000#32),
    binary main_v52 main_cst_10 main_v53 ((fun x v => Host.reduceAdd x v reducesTo_S1x512_S_d0_1 h_S_)),
    nullary main_cst_11 (constant S_ .f32 0x44000000#32),
    binary main_v53 main_cst_11 main_v54 (Host.divf),
    nullary main_cst_12 (constant S_ .f32 0x3E800000#32),
    binary main_v50 main_cst_12 main_v55 (mulf),
    binary main_v55 main_v54 main_v56 (addf) ]

/-- Operations of @main, in order — the logits: `%57` to `%60`. -/
abbrev opsO : List (HloOp τ sig (Elt F)) :=
  [ unary main_arg6 main_v57 ((transpose S512x2 [1, 0] · transposes_S2x512_S512x2_1_0)),
    binary main_v30 main_v57 main_v58 ((fun l r => Host.dotGeneral dot_S1x512_S512x2_S1x2_1_0_0_1_n_n none l r)),
    unary main_arg7 main_v59 (broadcastInDim S1x2 ![1] bcast_S2_S1x2_1),
    binary main_v58 main_v59 main_v60 (addf) ]

/-- Operations of @main, in order — their softmax: `%61` to `%71`. -/
abbrev opsP : List (HloOp τ sig (Elt F)) :=
  [ nullary main_cst_13 (constant S_ .f32 0xFF800000#32),
    binary main_v60 main_cst_13 main_v61 ((fun x v => Host.reduce FloatOps.maximumf x v reducesTo_S1x2_S1_d1 h_S_)),
    nullary main_cst_14 (constant S_ .f32 0xFF800000#32),
    unary main_cst_14 main_v62 (broadcastInDim S1 ![] bcast_S_S1),
    binary main_v62 main_v61 main_v63 (maximumf),
    unary main_v63 main_v64 (broadcastInDim S1x1 ![0] bcast_S1_S1x1_0),
    unary main_v64 main_v65 (broadcastInDim S1x2 ![0, 1] bcast_S1x1_S1x2_0_1),
    binary main_v60 main_v65 main_v66 (subf),
    unary main_v66 main_v67 (Host.exp),
    nullary main_cst_15 (constant S_ .f32 0x00000000#32),
    binary main_v67 main_cst_15 main_v68 ((fun x v => Host.reduceAdd x v reducesTo_S1x2_S1_d1 h_S_)),
    unary main_v68 main_v69 (broadcastInDim S1x1 ![0] bcast_S1_S1x1_0),
    unary main_v69 main_v70 (broadcastInDim S1x2 ![0, 1] bcast_S1x1_S1x2_0_1),
    binary main_v67 main_v70 main_v71 (Host.divf) ]

/-- Operations of @main, in order — the top instance of one bag: `%72` to its index. -/
abbrev opsI : List (HloOp τ sig (Elt F)) :=
  [ unary main_v71 main_v72 ((extractStridedSlice S1x1 ![0, 1] · slices_S1x2_S1x1_0_1)),
    reshape main_v72 main_v73 (rfl : (.f32 : EltTy) = .f32) shapeCasts_S1x1_S1,
    unary main_v73 main_values ((fun x => (Host.topK S1 0 (FloatOps.cmpfTotal .gt) x sliceFits_S1_S1).1)),
    unary main_v73 main_indices ((fun x => (Host.topK S1 0 (FloatOps.cmpfTotal .gt) x sliceFits_S1_S1).2)) ]

/-- Operations of @main, in order — the row taken at that index: `%74`. -/
abbrev opsT : List (HloOp τ sig (Elt F)) :=
  [ TRef.nullary main_call3.c (constantI S_ 32 0#32),
    TRef.unary main_call3.c main_call3.v0 (broadcastInDim S1 ![] bcast_S_S1),
    TRef.binary (.of main_indices) main_call3.v0 main_call3.v1 (cmpi .slt),
    TRef.nullary main_call3.c_0 (constantI S_ 32 1#32),
    TRef.unary main_call3.c_0 main_call3.v2 (broadcastInDim S1 ![] bcast_S_S1),
    TRef.binary (.of main_indices) main_call3.v2 main_call3.v3 addi,
    TRef.ternary main_call3.v1 main_call3.v3 (.of main_indices) main_call3_call0.v0 select,
    TRef.unary main_call3.call0.v0 main_call3.v5 (broadcastInDim S1x1 ![0] bcast_S1_S1x1_0),
    TRef.nullary main_call3.c_1 (constantI S1 32 0#32),
    TRef.nullary main_call3.c_2 (constantI S_ 32 0#32),
    TRef.unary main_call3.c_2 main_call3.v6 (broadcastInDim S1x1 ![] bcast_S_S1x1),
    TRef.binary main_call3.v5 main_call3.v6 main_call3.v7 (cmpi .sge),
    TRef.unary main_call3.c_1 main_call3.v8 (broadcastInDim S1x1 ![1] bcast_S1_S1x1_1),
    TRef.binary main_call3.v5 main_call3.v8 main_call3.v9 (cmpi .sle),
    TRef.binary main_call3.v7 main_call3.v9 main_call3.v10 andi,
    TRef.nullary main_call3.c_3 (constantI S_ 1 1#1),
    TRef.binary main_call3.v10 main_call3.c_3 main_call3.v11 (fun x v => Host.reduce IntOp.andi x v reducesTo_S1x1_S1_d1 h_S_),
    TRef.binary (.of main_v60) main_call3.v5 main_call3.v12 (fun x i => Host.gather gather_S1x2_S1x1_S1x2_1_0_n_n_0_1_12 x i),
    TRef.unary main_call3.v11 main_call3.v13 (broadcastInDim S1x2 ![0] bcast_S1_S1x2_0),
    TRef.nullary main_call3.cst (constant S_ .f32 0x7FC00000#32),
    TRef.unary main_call3.cst main_call3.v14 (broadcastInDim S1x2 ![] bcast_S_S1x2),
    TRef.ternary main_call3.v13 main_call3.v12 main_call3.v14 main_call3.v15 select ]

/-- Operations of @main, in order — the predicted class. -/
abbrev opsY : List (HloOp τ sig (Elt F)) :=
  [ unary main_v74 main_values_16 ((fun x => (Host.topK S1x1 1 (FloatOps.cmpfTotal .gt) x sliceFits_S1x2_S1x1).1)),
    unary main_v74 main_indices_17 ((fun x => (Host.topK S1x1 1 (FloatOps.cmpfTotal .gt) x sliceFits_S1x2_S1x1).2)) ]

/-- Operations of @main, in order — the softmax of the taken row: `%75` to `%85`. -/
abbrev opsS : List (HloOp τ sig (Elt F)) :=
  [ nullary main_cst_18 (constant S_ .f32 0xFF800000#32),
    binary main_v74 main_cst_18 main_v75 ((fun x v => Host.reduce FloatOps.maximumf x v reducesTo_S1x2_S1_d1 h_S_)),
    nullary main_cst_19 (constant S_ .f32 0xFF800000#32),
    unary main_cst_19 main_v76 (broadcastInDim S1 ![] bcast_S_S1),
    binary main_v76 main_v75 main_v77 (maximumf),
    unary main_v77 main_v78 (broadcastInDim S1x1 ![0] bcast_S1_S1x1_0),
    unary main_v78 main_v79 (broadcastInDim S1x2 ![0, 1] bcast_S1x1_S1x2_0_1),
    binary main_v74 main_v79 main_v80 (subf),
    unary main_v80 main_v81 (Host.exp),
    nullary main_cst_20 (constant S_ .f32 0x00000000#32),
    binary main_v81 main_cst_20 main_v82 ((fun x v => Host.reduceAdd x v reducesTo_S1x2_S1_d1 h_S_)),
    unary main_v82 main_v83 (broadcastInDim S1x1 ![0] bcast_S1_S1x1_0),
    unary main_v83 main_v84 (broadcastInDim S1x2 ![0, 1] bcast_S1x1_S1x2_0_1),
    binary main_v81 main_v84 main_v85 (Host.divf) ]

/-- Operations of @main, in order — the loss reshaped: `%86`. -/
abbrev opsE : List (HloOp τ sig (Elt F)) :=
  [ reshape main_v56 main_v86 (rfl : (.f32 : EltTy) = .f32) shapeCasts_S_S1x1 ]

/-- All of @main's operations: the stretches one after the other. -/
abbrev ops : List (HloOp τ sig (Elt F)) :=
  opsX ++ opsA ++ opsM ++ opsD ++ opsQ ++ opsL ++ opsO ++ opsP ++ opsI ++ opsT ++ opsY ++ opsS ++ opsE

set_option maxHeartbeats 4000000 in
/-- @main is that straight line. -/
theorem main_eq (c : Dev nD) : main (F := F) c = seq ops := rfl

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Host

end
-- ==== Proof.RefRun.lean ====
/- What the reference program leaves in each of its results, from any contents of its arguments. -/
module

public import proofs.«01_k».proof.Proof.RefOps
public import proofs.«01_k».proof.Proof.RefFun
public import Idealize.ShloMosaic.Lib.StableHlo.RunRead
public import Idealize.ShloMosaic.Lib.Pipeline.Frame

@[expose] public section

set_option maxRecDepth 16384

noncomputable section

namespace Cert.ReferenceIdeal.Host

open Cert.ReferenceIdeal Cert.ReferenceIdeal.Gen
open Idealize.ShloMosaic Idealize.ShloMosaic.TcCoe Idealize.ShloMosaic.StableHlo Idealize.SL.Sem

variable {F : FTy → Type} [FloatOps F]

/-! ## The results' terms, from the arguments' contents -/

section Terms

variable (V : Valuation τ sig (Elt F))

/-- The hidden layer of the arguments. -/
abbrev X : FVec F S8192x512 .f32 := hidden (V ↑main_arg0) (V ↑main_arg1) (V ↑main_arg2)
/-- The attention row of the arguments. -/
abbrev A : FVec F S1x8192 .f32 := attention (X V) (V ↑main_arg3) (V ↑main_arg4) (V ↑main_arg5)
/-- The pooled row of the arguments. -/
abbrev M : FVec F S1x512 .f32 := pooled (A V) (X V)
/-- The logits of the arguments. -/
abbrev O : FVec F S1x2 .f32 := logits (M V) (V ↑main_arg6) (V ↑main_arg7)
/-- The row the top instance's index takes. -/
abbrev T : FVec F S1x2 .f32 := takeRow (O V) (topIndex (softmax (O V)))
/-- The quantization loss of the arguments. -/
abbrev L : FVec F S_ .f32 := loss (coded (distances (M V) (V ↑main_arg8)) (V ↑main_arg8)) (M V)

end Terms

/-- The contents after the stretch `opsX`. -/
def atX (V : Valuation τ sig (Elt F)) : Valuation τ sig (Elt F) := after opsX V

/-- The references `opsX` writes. -/
abbrev wrX : List (Ref sig .tc) :=
  [main_v0, main_v1, main_v2, main_v3, main_v4, main_call0_cst, main_call0_v0, main_v5]

/-- `opsX` leaves every other reference as it was. -/
theorem keepX (V : Valuation τ sig (Elt F)) {r : Ref sig .tc} (hr : r ∉ wrX) :
    atX V (no_index (Proc.devRef .tc r)) = V (Proc.devRef .tc r) :=
  after_unwritten wrX rfl hr _

/-- The contents after the stretch `opsA`. -/
def atA (V : Valuation τ sig (Elt F)) : Valuation τ sig (Elt F) := after opsA (atX V)

/-- The references `opsA` writes. -/
abbrev wrA : List (Ref sig .tc) :=
  [main_v6, main_v7, main_v8, main_v9, main_v10, main_v11, main_v12, main_cst, main_v13, main_v14, main_cst_0, main_v15, main_v16, main_v17, main_v18, main_cst_1, main_v19, main_v20, main_v21, main_v22, main_cst_2, main_v23, main_v24, main_cst_3, main_v25, main_v26]

/-- `opsA` leaves every other reference as it was. -/
theorem keepA (V : Valuation τ sig (Elt F)) {r : Ref sig .tc} (hr : r ∉ wrA) :
    atA V (no_index (Proc.devRef .tc r)) = atX V (Proc.devRef .tc r) :=
  after_unwritten wrA rfl hr _

/-- The contents after the stretch `opsM`. -/
def atM (V : Valuation τ sig (Elt F)) : Valuation τ sig (Elt F) := after opsM (atA V)

/-- The references `opsM` writes. -/
abbrev wrM : List (Ref sig .tc) :=
  [main_v27, main_cst_4, main_v28, main_v29, main_v30]

/-- `opsM` leaves every other reference as it was. -/
theorem keepM (V : Valuation τ sig (Elt F)) {r : Ref sig .tc} (hr : r ∉ wrM) :
    atM V (no_index (Proc.devRef .tc r)) = atA V (Proc.devRef .tc r) :=
  after_unwritten wrM rfl hr _

/-- The contents after the stretch `opsD`. -/
def atD (V : Valuation τ sig (Elt F)) : Valuation τ sig (Elt F) := after opsD (atM V)

/-- The references `opsD` writes. -/
abbrev wrD : List (Ref sig .tc) :=
  [main_v31, main_cst_5, main_v32, main_v33, main_v34, main_cst_6, main_v35, main_v36, main_v37, main_v38, main_v39, main_v40, main_cst_7, main_v41, main_v42, main_v43]

/-- `opsD` leaves every other reference as it was. -/
theorem keepD (V : Valuation τ sig (Elt F)) {r : Ref sig .tc} (hr : r ∉ wrD) :
    atD V (no_index (Proc.devRef .tc r)) = atM V (Proc.devRef .tc r) :=
  after_unwritten wrD rfl hr _

/-- The contents after the stretch `opsQ`. -/
def atQ (V : Valuation τ sig (Elt F)) : Valuation τ sig (Elt F) := after opsQ (atD V)

/-- The references `opsQ` writes. -/
abbrev wrQ : List (Ref sig .tc) :=
  [main_call1_v0, main_call1_cst, main_call1_c, main_call1_v1_0, main_v44, main_call2_v0, main_call2_v1, main_call2_v2, main_call2_v3, main_v45, main_v46]

/-- `opsQ` leaves every other reference as it was. -/
theorem keepQ (V : Valuation τ sig (Elt F)) {r : Ref sig .tc} (hr : r ∉ wrQ) :
    atQ V (no_index (Proc.devRef .tc r)) = atD V (Proc.devRef .tc r) :=
  after_unwritten wrQ rfl hr _

/-- The contents after the stretch `opsL`. -/
def atL (V : Valuation τ sig (Elt F)) : Valuation τ sig (Elt F) := after opsL (atQ V)

/-- The references `opsL` writes. -/
abbrev wrL : List (Ref sig .tc) :=
  [main_v47, main_v48, main_cst_8, main_v49, main_cst_9, main_v50, main_v51, main_v52, main_cst_10, main_v53, main_cst_11, main_v54, main_cst_12, main_v55, main_v56]

/-- `opsL` leaves every other reference as it was. -/
theorem keepL (V : Valuation τ sig (Elt F)) {r : Ref sig .tc} (hr : r ∉ wrL) :
    atL V (no_index (Proc.devRef .tc r)) = atQ V (Proc.devRef .tc r) :=
  after_unwritten wrL rfl hr _

/-- The contents after the stretch `opsO`. -/
def atO (V : Valuation τ sig (Elt F)) : Valuation τ sig (Elt F) := after opsO (atL V)

/-- The references `opsO` writes. -/
abbrev wrO : List (Ref sig .tc) :=
  [main_v57, main_v58, main_v59, main_v60]

/-- `opsO` leaves every other reference as it was. -/
theorem keepO (V : Valuation τ sig (Elt F)) {r : Ref sig .tc} (hr : r ∉ wrO) :
    atO V (no_index (Proc.devRef .tc r)) = atL V (Proc.devRef .tc r) :=
  after_unwritten wrO rfl hr _

/-- The contents after the stretch `opsP`. -/
def atP (V : Valuation τ sig (Elt F)) : Valuation τ sig (Elt F) := after opsP (atO V)

/-- The references `opsP` writes. -/
abbrev wrP : List (Ref sig .tc) :=
  [main_cst_13, main_v61, main_cst_14, main_v62, main_v63, main_v64, main_v65, main_v66, main_v67, main_cst_15, main_v68, main_v69, main_v70, main_v71]

/-- `opsP` leaves every other reference as it was. -/
theorem keepP (V : Valuation τ sig (Elt F)) {r : Ref sig .tc} (hr : r ∉ wrP) :
    atP V (no_index (Proc.devRef .tc r)) = atO V (Proc.devRef .tc r) :=
  after_unwritten wrP rfl hr _

/-- The contents after the stretch `opsI`. -/
def atI (V : Valuation τ sig (Elt F)) : Valuation τ sig (Elt F) := after opsI (atP V)

/-- The references `opsI` writes. -/
abbrev wrI : List (Ref sig .tc) :=
  [main_v72, main_v73, main_values, main_indices]

/-- `opsI` leaves every other reference as it was. -/
theorem keepI (V : Valuation τ sig (Elt F)) {r : Ref sig .tc} (hr : r ∉ wrI) :
    atI V (no_index (Proc.devRef .tc r)) = atP V (Proc.devRef .tc r) :=
  after_unwritten wrI rfl hr _

/-- The contents after the stretch `opsT`. -/
def atT (V : Valuation τ sig (Elt F)) : Valuation τ sig (Elt F) := after opsT (atI V)

/-- The references `opsT` writes. -/
abbrev wrT : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_c_3, main_call3_v11, main_call3_v12, main_call3_v13, main_call3_cst, main_call3_v14, main_v74]

/-- `opsT` leaves every other reference as it was. -/
theorem keepT (V : Valuation τ sig (Elt F)) {r : Ref sig .tc} (hr : r ∉ wrT) :
    atT V (no_index (Proc.devRef .tc r)) = atI V (Proc.devRef .tc r) :=
  after_unwritten wrT rfl hr _

/-- The contents after the stretch `opsY`. -/
def atY (V : Valuation τ sig (Elt F)) : Valuation τ sig (Elt F) := after opsY (atT V)

/-- The references `opsY` writes. -/
abbrev wrY : List (Ref sig .tc) :=
  [main_values_16, main_indices_17]

/-- `opsY` leaves every other reference as it was. -/
theorem keepY (V : Valuation τ sig (Elt F)) {r : Ref sig .tc} (hr : r ∉ wrY) :
    atY V (no_index (Proc.devRef .tc r)) = atT V (Proc.devRef .tc r) :=
  after_unwritten wrY rfl hr _

/-- The contents after the stretch `opsS`. -/
def atS (V : Valuation τ sig (Elt F)) : Valuation τ sig (Elt F) := after opsS (atY V)

/-- The references `opsS` writes. -/
abbrev wrS : List (Ref sig .tc) :=
  [main_cst_18, main_v75, main_cst_19, main_v76, main_v77, main_v78, main_v79, main_v80, main_v81, main_cst_20, main_v82, main_v83, main_v84, main_v85]

/-- `opsS` leaves every other reference as it was. -/
theorem keepS (V : Valuation τ sig (Elt F)) {r : Ref sig .tc} (hr : r ∉ wrS) :
    atS V (no_index (Proc.devRef .tc r)) = atY V (Proc.devRef .tc r) :=
  after_unwritten wrS rfl hr _

/-- The contents after the stretch `opsE`. -/
def atE (V : Valuation τ sig (Elt F)) : Valuation τ sig (Elt F) := after opsE (atS V)

/-- The references `opsE` writes. -/
abbrev wrE : List (Ref sig .tc) :=
  [main_v86]

/-- `opsE` leaves every other reference as it was. -/
theorem keepE (V : Valuation τ sig (Elt F)) {r : Ref sig .tc} (hr : r ∉ wrE) :
    atE V (no_index (Proc.devRef .tc r)) = atS V (Proc.devRef .tc r) :=
  after_unwritten wrE rfl hr _

/-- The hidden layer. -/
theorem readX (V : Valuation τ sig (Elt F)) : atX V (no_index (Proc.devRef .tc main_v5)) = X V := by
  unfold atX
  after_reads_simp
  rfl

/-- The attention row. -/
theorem readA (V : Valuation τ sig (Elt F)) : atA V (no_index (Proc.devRef .tc main_v26)) = A V := by
  unfold atA
  after_reads_simp
  simp (disch := decide) only [keepX, readX]
  rfl

/-- The pooled row. -/
theorem readM (V : Valuation τ sig (Elt F)) : atM V (no_index (Proc.devRef .tc main_v30)) = M V := by
  unfold atM
  after_reads_simp
  simp (disch := decide) only [keepX, keepA, readX, readA]
  rfl

/-- The distances. -/
theorem readD (V : Valuation τ sig (Elt F)) : atD V (no_index (Proc.devRef .tc main_v43)) = distances (M V) (V ↑main_arg8) := by
  unfold atD
  after_reads_simp
  simp (disch := decide) only [keepX, keepA, keepM, readX, readA, readM]
  rfl

/-- The nearest code's row. -/
theorem readQ (V : Valuation τ sig (Elt F)) : atQ V (no_index (Proc.devRef .tc main_v46)) = coded (distances (M V) (V ↑main_arg8)) (V ↑main_arg8) := by
  unfold atQ
  after_reads_simp
  simp (disch := decide) only [keepX, keepA, keepM, keepD, readX, readA, readM, readD]
  rfl

/-- The loss. -/
theorem readL (V : Valuation τ sig (Elt F)) : atL V (no_index (Proc.devRef .tc main_v56)) = L V := by
  unfold atL
  after_reads_simp
  simp (disch := decide) only [keepX, keepA, keepM, keepD, keepQ, readX, readA, readM, readD, readQ]
  rfl

/-- The logits. -/
theorem readO (V : Valuation τ sig (Elt F)) : atO V (no_index (Proc.devRef .tc main_v60)) = O V := by
  unfold atO
  after_reads_simp
  simp (disch := decide) only [keepX, keepA, keepM, keepD, keepQ, keepL, readX, readA, readM, readD, readQ, readL]
  rfl

/-- Their softmax. -/
theorem readP (V : Valuation τ sig (Elt F)) : atP V (no_index (Proc.devRef .tc main_v71)) = softmax (O V) := by
  unfold atP
  after_reads_simp
  simp (disch := decide) only [keepX, keepA, keepM, keepD, keepQ, keepL, keepO, readX, readA, readM, readD, readQ, readL, readO]
  rfl

/-- The top index. -/
theorem readI (V : Valuation τ sig (Elt F)) : atI V (no_index (Proc.devRef .tc main_indices)) = topIndex (softmax (O V)) := by
  unfold atI
  after_reads_simp
  simp (disch := decide) only [keepX, keepA, keepM, keepD, keepQ, keepL, keepO, keepP, readX, readA, readM, readD, readQ, readL, readO, readP]
  rfl

/-- The row taken. -/
theorem readT (V : Valuation τ sig (Elt F)) : atT V (no_index (Proc.devRef .tc main_v74)) = T V := by
  unfold atT
  after_reads_simp
  simp (disch := decide) only [keepX, keepA, keepM, keepD, keepQ, keepL, keepO, keepP, keepI, readX, readA, readM, readD, readQ, readL, readO, readP, readI]
  rfl

/-- The predicted class. -/
theorem readY (V : Valuation τ sig (Elt F)) : atY V (no_index (Proc.devRef .tc main_indices_17)) = predicted (T V) := by
  unfold atY
  after_reads_simp
  simp (disch := decide) only [keepX, keepA, keepM, keepD, keepQ, keepL, keepO, keepP, keepI, keepT, readX, readA, readM, readD, readQ, readL, readO, readP, readI, readT]
  rfl

/-- The softmax of the row taken. -/
theorem readS (V : Valuation τ sig (Elt F)) : atS V (no_index (Proc.devRef .tc main_v85)) = softmax (T V) := by
  unfold atS
  after_reads_simp
  simp (disch := decide) only [keepX, keepA, keepM, keepD, keepQ, keepL, keepO, keepP, keepI, keepT, keepY, readX, readA, readM, readD, readQ, readL, readO, readP, readI, readT, readY]
  rfl

/-- The loss, reshaped. -/
theorem readE (V : Valuation τ sig (Elt F)) : atE V (no_index (Proc.devRef .tc main_v86)) = shapeCast S1x1 (L V) shapeCasts_S_S1x1 := by
  unfold atE
  after_reads_simp
  simp (disch := decide) only [keepX, keepA, keepM, keepD, keepQ, keepL, keepO, keepP, keepI, keepT, keepY, keepS, readX, readA, readM, readD, readQ, readL, readO, readP, readI, readT, readY, readS]
  rfl

/-- The whole line is its stretches one after the other. -/
theorem after_ops (V : Valuation τ sig (Elt F)) : after ops V = atE V := by
  simp only [ops, after_append, atX, atA, atM, atD, atQ, atL, atO, atP, atI, atT, atY, atS, atE]

end Cert.ReferenceIdeal.Host

end
-- ==== Proof.RefEnd.lean ====
/- The reference program's run: it ends with its results at the terms of Proof/RefRun.lean, its arguments unchanged and
   the machine quiescent. -/
module

public import proofs.«01_k».proof.Proof.RefRun
public import Idealize.ShloMosaic.Lib.Quiescent

@[expose] public section

set_option maxRecDepth 16384

noncomputable section

namespace Cert.ReferenceIdeal.Host

open Cert.ReferenceIdeal Cert.ReferenceIdeal.Gen
open Idealize.ShloMosaic Idealize.ShloMosaic.TcCoe Idealize.ShloMosaic.StableHlo Idealize.SL.Sem

variable {F : FTy → Type} [FloatOps F]

/-- These operations touch only the program's arrays. -/
theorem opsX_sub : (opsX : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩
/-- These operations touch only the program's arrays. -/
theorem opsA_sub : (opsA : List (HloOp τ sig (Elt F))).Forall fun op => op.bufs ⊆ tcRefs τ sig :=
  ⟨unary_bufs_sub .., unary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., nullary_bufs_sub .., binary_bufs_sub .., unary_bufs_sub .., unary_bufs_sub .., unary_bufs_sub .., nullary_bufs_sub .., unary_bufs_sub .., binary_bufs_sub .., nullary_bufs_sub .., unary_bufs_sub .., binary_bufs_sub ..⟩
/-- These operations touch only the program's arrays. -/
theorem opsM_sub : (opsM : List (HloOp τ sig (Elt F))).Forall fun op => op.bufs ⊆ tcRefs τ sig :=
  ⟨binary_bufs_sub .., nullary_bufs_sub .., binary_bufs_sub .., unary_bufs_sub .., binary_bufs_sub ..⟩
/-- These operations touch only the program's arrays. -/
theorem opsD_sub : (opsD : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., binary_bufs_sub .., unary_bufs_sub .., binary_bufs_sub .., nullary_bufs_sub .., unary_bufs_sub .., binary_bufs_sub .., binary_bufs_sub ..⟩
/-- These operations touch only the program's arrays. -/
theorem opsQ_sub : (opsQ : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub .., unary_bufs_sub .., binary_bufs_sub .., unary_bufs_sub .., binary_bufs_sub ..⟩
/-- These operations touch only the program's arrays. -/
theorem opsL_sub : (opsL : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub ..⟩
/-- These operations touch only the program's arrays. -/
theorem opsO_sub : (opsO : List (HloOp τ sig (Elt F))).Forall fun op => op.bufs ⊆ tcRefs τ sig :=
  ⟨unary_bufs_sub .., binary_bufs_sub .., unary_bufs_sub .., binary_bufs_sub ..⟩
/-- These operations touch only the program's arrays. -/
theorem opsP_sub : (opsP : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
/-- These operations touch only the program's arrays. -/
theorem opsI_sub : (opsI : List (HloOp τ sig (Elt F))).Forall fun op => op.bufs ⊆ tcRefs τ sig :=
  ⟨unary_bufs_sub .., reshape_bufs_sub .., unary_bufs_sub .., unary_bufs_sub ..⟩
/-- These operations touch only the program's arrays. -/
theorem opsT_sub : (opsT : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- These operations touch only the program's arrays. -/
theorem opsY_sub : (opsY : List (HloOp τ sig (Elt F))).Forall fun op => op.bufs ⊆ tcRefs τ sig :=
  ⟨unary_bufs_sub .., unary_bufs_sub ..⟩
/-- These operations touch only the program's arrays. -/
theorem opsS_sub : (opsS : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
/-- These operations touch only the program's arrays. -/
theorem opsE_sub : (opsE : List (HloOp τ sig (Elt F))).Forall fun op => op.bufs ⊆ tcRefs τ sig :=
  reshape_bufs_sub ..

/-- The whole line touches only the program's arrays. -/
theorem ops_sub : (ops : List (HloOp τ sig (Elt F))).Forall fun op => op.bufs ⊆ tcRefs τ sig := by
  simp only [ops, List.forall_append]
  exact ⟨⟨⟨⟨⟨⟨⟨⟨⟨⟨⟨⟨opsX_sub, opsA_sub⟩, opsM_sub⟩, opsD_sub⟩, opsQ_sub⟩, opsL_sub⟩, opsO_sub⟩, opsP_sub⟩, opsI_sub⟩, opsT_sub⟩, opsY_sub⟩, opsS_sub⟩, opsE_sub⟩

/-- Every operation determines its result. -/
theorem ops_fresh : (ops : List (HloOp τ sig (Elt F))).Forall fun op => op.fresh = ∅ := by
  simp only [ops, List.forall_append, and_assoc]
  refine ⟨?_, ?_, ?_, ?_, ?_, ?_, ?_, ?_, ?_, ?_, ?_, ?_, ?_⟩ <;> exact forall_fresh_of_map rfl

/-- A reference the line never writes holds at the end what it held at the start. -/
theorem keep_arg (V : Valuation τ sig (Elt F)) {r : Ref sig .tc}
    (h : r ∉ wrX ++ wrA ++ wrM ++ wrD ++ wrQ ++ wrL ++ wrO ++ wrP ++ wrI ++ wrT ++ wrY ++ wrS ++ wrE) :
    atE V (Proc.devRef .tc r) = V (Proc.devRef .tc r) := by
  simp only [List.mem_append, not_or] at h
  obtain ⟨⟨⟨⟨⟨⟨⟨⟨⟨⟨⟨⟨h1, h2⟩, h3⟩, h4⟩, h5⟩, h6⟩, h7⟩, h8⟩, h9⟩, h10⟩, h11⟩, h12⟩, h13⟩ := h
  rw [keepE _ h13, keepS _ h12, keepY _ h11, keepT _ h10, keepI _ h9, keepP _ h8, keepO _ h7, keepL _ h6, keepQ _ h5,
    keepD _ h4, keepM _ h3, keepA _ h2, keepX _ h1]

/-- At the end every array of every device holds what the line leaves there. -/
theorem run_at (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ
    (fun _ op hop => List.forall_iff_forall_mem.mp ops_fresh op hop)

/-- The program ends, each result at its term and each argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = T (launchContents m c)
      ∧ r.2.mem ((c.tc : Thread nD τ).loc main_v85) = softmax (T (launchContents m c))
      ∧ r.2.mem ((c.tc : Thread nD τ).loc main_indices_17) = predicted (T (launchContents m c))
      ∧ r.2.mem ((c.tc : Thread nD τ).loc main_v86) = shapeCast S1x1 (L (launchContents m c)) shapeCasts_S_S1x1
      ∧ r.2.mem ((c.tc : Thread nD τ).loc main_v71) = softmax (O (launchContents m c))
      ∧ r.2.mem ((c.tc : Thread nD τ).loc main_v26) = A (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run _ _ _).mono (fun r h c => ?_) (run_at m ρ)
  simp only [h c, after_ops]
  refine ⟨?_, ?_, ?_, ?_, ?_, ?_, keep_arg _ (by decide), keep_arg _ (by decide), keep_arg _ (by decide),
    keep_arg _ (by decide), keep_arg _ (by decide), keep_arg _ (by decide), keep_arg _ (by decide),
    keep_arg _ (by decide), keep_arg _ (by decide)⟩ <;>
    simp (disch := decide) only [keepX, keepA, keepM, keepD, keepQ, keepL, keepO, keepP, keepI, keepT, keepY, keepS, keepE, readA, readE, readP, readT, readY, readS]

/-- The claim's frame: the arguments end unchanged and the machine is quiescent. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0 :=
  (θ_run _ _ _).mono (fun r h => ⟨fun c => (h c).2.2.2.2.2.2, sem_eq_zero_of_no_sems (by decide) r.2⟩) (run m ρ)

end Cert.ReferenceIdeal.Host

end
-- ==== Proof.Equation.lean ====
/- The equation: each array the kernel leaves is the reference's stage of the kernel's own arguments, and the reference's results
   from agreeing arguments are those same stages. -/
module

public import proofs.«01_k».proof.Proof.Arrays
public import proofs.«01_k».proof.Proof.Tail
public import proofs.«01_k».proof.Proof.Loss
public import proofs.«01_k».proof.Proof.RefEnd

@[expose] public section

set_option maxRecDepth 16384

noncomputable section

namespace Cert.KernelIdeal.Bridge

open Cert.KernelIdeal Cert.KernelIdeal.Gen Cert.KernelIdeal.Value
open Idealize.ShloMosaic Idealize.ShloMosaic.TcCoe Idealize.SL.Sem

variable (m : (ℓ : Loc nD τ sig) → Buf (Elt Ideal) ℓ)

/-- The reference's logits of the kernel's arguments. -/
def RO (c : Dev nD) : FVec Ideal Cert.ReferenceIdeal.S1x2 .f32 :=
  Cert.ReferenceIdeal.Host.logits (F := Ideal) (RM m c) (m ((c : Thread nD τ).loc main_arg6)) (m ((c : Thread nD τ).loc main_arg7))
/-- The reference's loss of the kernel's arguments. -/
def RL (c : Dev nD) : FVec Ideal Cert.ReferenceIdeal.S_ .f32 :=
  Cert.ReferenceIdeal.Host.loss (F := Ideal)
    (Cert.ReferenceIdeal.Host.coded (F := Ideal)
      (Cert.ReferenceIdeal.Host.distances (F := Ideal) (RM m c) (m ((c : Thread nD τ).loc main_arg8)))
      (m ((c : Thread nD τ).loc main_arg8))) (RM m c)

/-- Two rows of two that agree entry by entry are one. -/
theorem row_two {α : Type} {x y : Cert.ReferenceIdeal.S1x2.Idx → α} (h : ∀ l : Fin 2, x (ix2 0 l) = y (ix2 0 l)) : x = y := by
  funext j
  have e : j = ix2 0 (j 1) := by idx_ext
  rw [e]; exact h (j 1)

/-- Two one-by-one arrays that agree at their entry are one. -/
theorem row_one {α : Type} {x y : Cert.ReferenceIdeal.S1x1.Idx → α} (h : x (ix2 0 0) = y (ix2 0 0)) : x = y := by
  funext j
  have e : j = ix2 0 0 := by idx_ext
  rw [e]; exact h

/-- The kernel's logits payload at the last point is the reference's logits. -/
theorem pay7_last (c : Dev nD) :
    k0_pay7 (F := Ideal) (bm m c t0_3) (iblk m c 6 t0_3) (iblk m c 7 t0_3) = RO m c := by
  refine row_two fun l => ?_
  have e6 := cls_read m c t0_3
  rw [bm_last, e6]
  exact Cert.Tail.logits_eq _ _ _ _ (clsb_read m c t0_3) l

/-- The first array: the attention row. -/
theorem G9_eq (c : Dev nD) : G9 m c = RA m c := by
  funext i
  have e : i = ix2 0 (i 1) := by idx_ext
  have hi : (i 1).val < 8192 := (i 1).isLt
  have h0 : (i 0).val = 0 := by have := (i 0).isLt; change _ < 1 at this; omega
  have hp : pt9Of i = (i 1).val / 2048 := by
    show 4 * ((i 0).val / 1 - 0) + 1 * ((i 1).val / 2048 - 0) = _
    omega
  have hl : loc9Of i = ix2 0 ⟨(i 1).val % 2048, Nat.mod_lt _ (by decide)⟩ := by
    funext a
    fin_cases a
    · exact Subsingleton.elim (α := Fin 1) _ _
    · rfl
  have hb : (i 1).val / 2048 < cfg0.N := lt_of_lt_of_eq (by omega) N_0.symm
  unfold G9
  rw [dif_pos (by rw [hp]; exact hb), hl, fold0_congr m c _ _ _ (by omega) hp,
    ← outsAt0_sweep m c _ hb, att_out m c ⟨_, hb⟩, ba_at]
  refine congrArg (RA m c) (Eq.trans (congrArg (ix2 0) (Fin.ext ?_)) e.symm)
  show (i 1).val / 2048 * 2048 + (i 1).val % 2048 = (i 1).val
  omega

/-- The second array: the logits. -/
theorem G10_eq (c : Dev nD) : G10 m c = RO m c := by
  rw [G10_last, ← outsAt0_sweep m c 3 t0_3.isLt]
  exact (logits_out m c t0_3 (by decide) (by decide)).trans (pay7_last m c)

/-- The third array: the softmax of the logits. -/
theorem G11_eq (c : Dev nD) : G11 m c = Cert.ReferenceIdeal.Host.softmax (F := Ideal) (RO m c) := by
  rw [G11_last, ← outsAt0_sweep m c 3 t0_3.isLt]
  refine (probs_out m c t0_3 (by decide) (by decide)).trans (row_two fun l => ?_)
  rw [← pay7_last]
  exact Cert.Tail.softmax_eq _ _ _ l

/-- The fourth array: the quantization loss. -/
theorem G12_eq (c : Dev nD) : G12 m c
    = shapeCast Cert.ReferenceIdeal.S1x1 (RL m c) Cert.ReferenceIdeal.Gen.shapeCasts_S_S1x1 := by
  rw [G12_last, ← outsAt0_sweep m c 3 t0_3.isLt]
  refine (loss_out m c t0_3 (by decide) (by decide)).trans (row_one ?_)
  have e8 := code_read m c t0_3
  rw [e8]
  refine (Cert.Loss.loss_eq _ _ _ (fun a => a.elim0)).trans ?_
  have eb := bm_last m c
  unfold bm at eb
  rw [eb]
  show RL m c _ = RL m c _
  exact congrArg (RL m c) (funext fun a => a.elim0)

/-- The fifth array: the predicted class. -/
theorem G13_eq (c : Dev nD) : G13 m c = Cert.ReferenceIdeal.Host.predicted (F := Ideal) (RO m c) := by
  rw [G13_last, ← outsAt0_sweep m c 3 t0_3.isLt]
  refine (class_out m c t0_3 (by decide) (by decide)).trans (row_one ?_)
  rw [← pay7_last]
  exact Cert.Tail.class_eq _ _ _

/-- The row the reference takes at its top index is the row of logits. -/
theorem take_eq (o : FVec Ideal Cert.ReferenceIdeal.S1x2 .f32) :
    Cert.ReferenceIdeal.Host.takeRow (F := Ideal) o
      (Cert.ReferenceIdeal.Host.topIndex (F := Ideal) (Cert.ReferenceIdeal.Host.softmax (F := Ideal) o)) = o := by
  rw [Cert.Tail.topIndex_eq]
  exact row_two (Cert.Tail.takeRow_eq o)

/-- Where its arguments agree with the kernel's, the reference's attention row, logits and loss are those named above. -/
theorem reference_terms (m' : (ℓ : Loc Cert.ReferenceIdeal.nD Cert.ReferenceIdeal.τ Cert.ReferenceIdeal.sig) → Buf (Elt Ideal) ℓ)
    (c : Dev nD)
    (h0 : m' ((c.tc : Thread Cert.ReferenceIdeal.nD Cert.ReferenceIdeal.τ).loc Cert.ReferenceIdeal.main_arg0) = m ((c : Thread nD τ).loc main_arg0))
    (h1 : m' ((c.tc : Thread Cert.ReferenceIdeal.nD Cert.ReferenceIdeal.τ).loc Cert.ReferenceIdeal.main_arg1) = m ((c : Thread nD τ).loc main_arg1))
    (h2 : m' ((c.tc : Thread Cert.ReferenceIdeal.nD Cert.ReferenceIdeal.τ).loc Cert.ReferenceIdeal.main_arg2) = m ((c : Thread nD τ).loc main_arg2))
    (h3 : m' ((c.tc : Thread Cert.ReferenceIdeal.nD Cert.ReferenceIdeal.τ).loc Cert.ReferenceIdeal.main_arg3) = m ((c : Thread nD τ).loc main_arg3))
    (h4 : m' ((c.tc : Thread Cert.ReferenceIdeal.nD Cert.ReferenceIdeal.τ).loc Cert.ReferenceIdeal.main_arg4) = m ((c : Thread nD τ).loc main_arg4))
    (h5 : m' ((c.tc : Thread Cert.ReferenceIdeal.nD Cert.ReferenceIdeal.τ).loc Cert.ReferenceIdeal.main_arg5) = m ((c : Thread nD τ).loc main_arg5))
    (h6 : m' ((c.tc : Thread Cert.ReferenceIdeal.nD Cert.ReferenceIdeal.τ).loc Cert.ReferenceIdeal.main_arg6) = m ((c : Thread nD τ).loc main_arg6))
    (h7 : m' ((c.tc : Thread Cert.ReferenceIdeal.nD Cert.ReferenceIdeal.τ).loc Cert.ReferenceIdeal.main_arg7) = m ((c : Thread nD τ).loc main_arg7))
    (h8 : m' ((c.tc : Thread Cert.ReferenceIdeal.nD Cert.ReferenceIdeal.τ).loc Cert.ReferenceIdeal.main_arg8) = m ((c : Thread nD τ).loc main_arg8)) :
    Cert.ReferenceIdeal.Host.A (F := Ideal) (StableHlo.launchContents m' c) = RA m c
      ∧ Cert.ReferenceIdeal.Host.O (F := Ideal) (StableHlo.launchContents m' c) = RO m c
      ∧ Cert.ReferenceIdeal.Host.L (F := Ideal) (StableHlo.launchContents m' c) = RL m c := by
  have hX : Cert.ReferenceIdeal.Host.X (F := Ideal) (StableHlo.launchContents m' c) = RX m c := by
    show Cert.ReferenceIdeal.Host.hidden (F := Ideal) _ _ _ = _
    unfold RX; exact congr (congrArg₂ _ h0 h1) h2
  have hA : Cert.ReferenceIdeal.Host.A (F := Ideal) (StableHlo.launchContents m' c) = RA m c := by
    show Cert.ReferenceIdeal.Host.attention (F := Ideal) _ _ _ _ = _
    unfold RA; exact congr (congr (congrArg₂ _ hX h3) h4) h5
  have hM : Cert.ReferenceIdeal.Host.M (F := Ideal) (StableHlo.launchContents m' c) = RM m c := by
    show Cert.ReferenceIdeal.Host.pooled (F := Ideal) _ _ = _
    unfold RM; exact congrArg₂ _ hA hX
  refine ⟨hA, ?_, ?_⟩
  · show Cert.ReferenceIdeal.Host.logits (F := Ideal) _ _ _ = _
    unfold RO; exact congr (congrArg₂ _ hM h6) h7
  · show Cert.ReferenceIdeal.Host.loss (F := Ideal) (Cert.ReferenceIdeal.Host.coded (F := Ideal) _ _) _ = _
    unfold RL
    exact congrArg₂ _ (congrArg₂ _ (congrArg₂ _ hM h8) h8) hM

end Cert.KernelIdeal.Bridge

end
-- ==== Proof.lean ====
/- The proof of the claim: the three frames, and the equation of all six results over the exact numbers. -/
module

public import proofs.«01_k».proof.Defs
public import proofs.«01_k».proof.Proof.Gen.KernelIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.KernelIdeal.Bridge

/-- From agreeing arguments the kernel and the reference end with the same six results over the exact numbers. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => RO m c, fun c => Cert.ReferenceIdeal.Host.softmax (F := Ideal) (RO m c),
    fun c => Cert.ReferenceIdeal.Host.predicted (F := Ideal) (RO m c),
    fun c => shapeCast Cert.ReferenceIdeal.S1x1 (RL m c) Cert.ReferenceIdeal.Gen.shapeCasts_S_S1x1,
    fun c => Cert.ReferenceIdeal.Host.softmax (F := Ideal) (RO m c), fun c => RA m c, ?_, ?_⟩
  · refine (θ_run _ _ _).mono (fun r h c => ?_) (Cert.KernelIdeal.Value.run m g)
    obtain ⟨h9, h10, h11, h12, h13, hargs⟩ := h c
    exact ⟨h10.trans (G10_eq m c), h11.trans (G11_eq m c), h13.trans (G13_eq m c), h12.trans (G12_eq m c),
      h11.trans (G11_eq m c), h9.trans (G9_eq m c), hargs⟩
  · refine (θ_run _ _ _).mono (fun r h c => ?_) (Cert.ReferenceIdeal.Host.run m' g')
    obtain ⟨a0, a1, a2, a3, a4, a5, a6, a7, a8⟩ := hag c
    obtain ⟨hA, hO, hL⟩ := reference_terms m m' c a0 a1 a2 a3 a4 a5 a6 a7 a8
    have hT : Cert.ReferenceIdeal.Host.T (F := Ideal) (StableHlo.launchContents m' c) = RO m c := by
      show Cert.ReferenceIdeal.Host.takeRow (F := Ideal) _ _ = _
      rw [hO]; exact take_eq _
    obtain ⟨e0, e1, e2, e3, e4, e5, hargs⟩ := h c
    exact ⟨e0.trans hT, e1.trans (congrArg _ hT), e2.trans (congrArg _ hT),
      e3.trans (congrArg (fun x => shapeCast Cert.ReferenceIdeal.S1x1 x Cert.ReferenceIdeal.Gen.shapeCasts_S_S1x1) hL),
      e4.trans (congrArg _ hO), e5.trans hA, hargs⟩

/-- The whole claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Host.frame m ρ, trivial, algebraic⟩

end Cert.Proof

end
